-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 16, 128]⟩ ⟨4, ![4, 1024, 32, 128]⟩ (Layout.meshBlock [2, 2, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨3, ![4, 512, 4096]⟩ ⟨3, ![4, 1024, 4096]⟩ (Layout.meshBlock [2, 2, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x16x128 : Shape := ⟨4, ![4, 1024, 16, 128]⟩
abbrev S2048x4096 : Shape := ⟨2, ![2048, 4096]⟩
abbrev S4x512x4096 : Shape := ⟨3, ![4, 512, 4096]⟩
abbrev S2x512x2048 : Shape := ⟨3, ![2, 512, 2048]⟩
abbrev S2x512x4096 : Shape := ⟨3, ![2, 512, 4096]⟩
abbrev S2 : Shape := ⟨1, ![2]⟩
abbrev S2x4 : Shape := ⟨2, ![2, 4]⟩
abbrev S_ : Shape := ⟨0, ![]⟩
abbrev S1 : Shape := ⟨1, ![1]⟩
abbrev S1x512x128 : Shape := ⟨3, ![1, 512, 128]⟩
abbrev S512x128 : Shape := ⟨2, ![512, 128]⟩
abbrev S1x512x1x128 : Shape := ⟨4, ![1, 512, 1, 128]⟩
abbrev S1x512x2048 : Shape := ⟨3, ![1, 512, 2048]⟩
abbrev S512x2048 : Shape := ⟨2, ![512, 2048]⟩
abbrev S2048x1024 : Shape := ⟨2, ![2048, 1024]⟩
abbrev S512x1024 : Shape := ⟨2, ![512, 1024]⟩
abbrev S1x512x1024 : Shape := ⟨3, ![1, 512, 1024]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x1024x16x128, .f32⟩
  | .hbm, ⟨1, _⟩ => ⟨S2048x4096, .f32⟩
  | .hbm, ⟨2, _⟩ => ⟨S2048x4096, .bf16⟩
  | .hbm, ⟨3, _⟩ => ⟨S4x512x4096, .bf16⟩
  | .hbm, ⟨4, _⟩ => ⟨S4x512x4096, .f32⟩
  | .local _ .vmem, ⟨0, _⟩ => ⟨S2048x4096, .bf16⟩
  | .local _ .vmem, ⟨1, _⟩ => ⟨S4x512x4096, .bf16⟩
  | .local _ .vmem, ⟨2, _⟩ => ⟨S2x512x2048, .f32⟩
  | .local _ .vmem, ⟨3, _⟩ => ⟨S2x512x4096, .bf16⟩
  | .local _ .vmem, ⟨4, _⟩ => ⟨S2x512x4096, .bf16⟩
  | _, _ => ⟨S4x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 2 20 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 1

abbrev nD : Nat := 16
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c0_i32_4 : BitVec 32 := 0#32
  let c0_i32_9 : BitVec 32 := 0#32
  ![0, v11.toNat, 0, 0]
def k0_off2 (d0 : Dev nD) : Fin 4 → Nat :=
  let c0_i32_10 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c1_i32_11 : BitVec 32 := 1#32
  let c0_i32_15 : BitVec 32 := 0#32
  ![0, v11.toNat, 1, 0]
def k0_off3 (d0 : Dev nD) : Fin 4 → Nat :=
  let c0_i32_16 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c2_i32_17 : BitVec 32 := 2#32
  let c0_i32_21 : BitVec 32 := 0#32
  ![0, v11.toNat, 2, 0]
def k0_off4 (d0 : Dev nD) : Fin 4 → Nat :=
  let c0_i32_22 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c3_i32 : BitVec 32 := 3#32
  let c0_i32_26 : BitVec 32 := 0#32
  ![0, v11.toNat, 3, 0]
def k0_off5 (d0 : Dev nD) : Fin 4 → Nat :=
  let c0_i32_27 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c4_i32_28 : BitVec 32 := 4#32
  let c0_i32_33 : BitVec 32 := 0#32
  ![0, v11.toNat, 4, 0]
def k0_off6 (d0 : Dev nD) : Fin 4 → Nat :=
  let c0_i32_34 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c5_i32 : BitVec 32 := 5#32
  let c0_i32_38 : BitVec 32 := 0#32
  ![0, v11.toNat, 5, 0]
def k0_off7 (d0 : Dev nD) : Fin 4 → Nat :=
  let c0_i32_39 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c6_i32 : BitVec 32 := 6#32
  let c0_i32_43 : BitVec 32 := 0#32
  ![0, v11.toNat, 6, 0]
def k0_off8 (d0 : Dev nD) : Fin 4 → Nat :=
  let c0_i32_44 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c7_i32 : BitVec 32 := 7#32
  let c0_i32_48 : BitVec 32 := 0#32
  ![0, v11.toNat, 7, 0]
def k0_off9 (d0 : Dev nD) : Fin 4 → Nat :=
  let c0_i32_49 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c8_i32_50 : BitVec 32 := 8#32
  let c0_i32_54 : BitVec 32 := 0#32
  ![0, v11.toNat, 8, 0]
def k0_off10 (d0 : Dev nD) : Fin 4 → Nat :=
  let c0_i32_55 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c9_i32 : BitVec 32 := 9#32
  let c0_i32_59 : BitVec 32 := 0#32
  ![0, v11.toNat, 9, 0]
def k0_off11 (d0 : Dev nD) : Fin 4 → Nat :=
  let c0_i32_60 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c10_i32 : BitVec 32 := 10#32
  let c0_i32_64 : BitVec 32 := 0#32
  ![0, v11.toNat, 10, 0]
def k0_off12 (d0 : Dev nD) : Fin 4 → Nat :=
  let c0_i32_65 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c11_i32 : BitVec 32 := 11#32
  let c0_i32_69 : BitVec 32 := 0#32
  ![0, v11.toNat, 11, 0]
def k0_off13 (d0 : Dev nD) : Fin 4 → Nat :=
  let c0_i32_70 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c12_i32 : BitVec 32 := 12#32
  let c0_i32_74 : BitVec 32 := 0#32
  ![0, v11.toNat, 12, 0]
def k0_off14 (d0 : Dev nD) : Fin 4 → Nat :=
  let c0_i32_75 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c13_i32 : BitVec 32 := 13#32
  let c0_i32_79 : BitVec 32 := 0#32
  ![0, v11.toNat, 13, 0]
def k0_off15 (d0 : Dev nD) : Fin 4 → Nat :=
  let c0_i32_80 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c14_i32 : BitVec 32 := 14#32
  let c0_i32_84 : BitVec 32 := 0#32
  ![0, v11.toNat, 14, 0]
def k0_off16 (d0 : Dev nD) : Fin 4 → Nat :=
  let c0_i32_85 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c512_i32 : BitVec 32 := 512#32
  let v11 : BitVec 32 := Scalar.muli v10 c512_i32
  let c15_i32 : BitVec 32 := 15#32
  let c0_i32_89 : BitVec 32 := 0#32
  ![0, v11.toNat, 15, 0]
def k0_off17 (d0 : Dev nD) : Fin 4 → Nat :=
  let c0_i32_91 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c0_i32_92 : BitVec 32 := 0#32
  let c0_i32_97 : BitVec 32 := 0#32
  ![0, v108.toNat, 0, 0]
def k0_off18 (d0 : Dev nD) : Fin 4 → Nat :=
  let c0_i32_98 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c1_i32_99 : BitVec 32 := 1#32
  let c0_i32_104 : BitVec 32 := 0#32
  ![0, v108.toNat, 1, 0]
def k0_off19 (d0 : Dev nD) : Fin 4 → Nat :=
  let c0_i32_105 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c2_i32_106 : BitVec 32 := 2#32
  let c0_i32_111 : BitVec 32 := 0#32
  ![0, v108.toNat, 2, 0]
def k0_off20 (d0 : Dev nD) : Fin 4 → Nat :=
  let c0_i32_112 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c3_i32_113 : BitVec 32 := 3#32
  let c0_i32_118 : BitVec 32 := 0#32
  ![0, v108.toNat, 3, 0]
def k0_off21 (d0 : Dev nD) : Fin 4 → Nat :=
  let c0_i32_119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c4_i32_120 : BitVec 32 := 4#32
  let c0_i32_125 : BitVec 32 := 0#32
  ![0, v108.toNat, 4, 0]
def k0_off22 (d0 : Dev nD) : Fin 4 → Nat :=
  let c0_i32_126 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c5_i32_127 : BitVec 32 := 5#32
  let c0_i32_132 : BitVec 32 := 0#32
  ![0, v108.toNat, 5, 0]
def k0_off23 (d0 : Dev nD) : Fin 4 → Nat :=
  let c0_i32_133 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c6_i32_134 : BitVec 32 := 6#32
  let c0_i32_139 : BitVec 32 := 0#32
  ![0, v108.toNat, 6, 0]
def k0_off24 (d0 : Dev nD) : Fin 4 → Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c7_i32_141 : BitVec 32 := 7#32
  let c0_i32_146 : BitVec 32 := 0#32
  ![0, v108.toNat, 7, 0]
def k0_off25 (d0 : Dev nD) : Fin 4 → Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c8_i32_148 : BitVec 32 := 8#32
  let c0_i32_153 : BitVec 32 := 0#32
  ![0, v108.toNat, 8, 0]
def k0_off26 (d0 : Dev nD) : Fin 4 → Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c9_i32_155 : BitVec 32 := 9#32
  let c0_i32_160 : BitVec 32 := 0#32
  ![0, v108.toNat, 9, 0]
def k0_off27 (d0 : Dev nD) : Fin 4 → Nat :=
  let c0_i32_161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c10_i32_162 : BitVec 32 := 10#32
  let c0_i32_167 : BitVec 32 := 0#32
  ![0, v108.toNat, 10, 0]
def k0_off28 (d0 : Dev nD) : Fin 4 → Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c11_i32_169 : BitVec 32 := 11#32
  let c0_i32_174 : BitVec 32 := 0#32
  ![0, v108.toNat, 11, 0]
def k0_off29 (d0 : Dev nD) : Fin 4 → Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c12_i32_176 : BitVec 32 := 12#32
  let c0_i32_181 : BitVec 32 := 0#32
  ![0, v108.toNat, 12, 0]
def k0_off30 (d0 : Dev nD) : Fin 4 → Nat :=
  let c0_i32_182 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c13_i32_183 : BitVec 32 := 13#32
  let c0_i32_188 : BitVec 32 := 0#32
  ![0, v108.toNat, 13, 0]
def k0_off31 (d0 : Dev nD) : Fin 4 → Nat :=
  let c0_i32_189 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c14_i32_190 : BitVec 32 := 14#32
  let c0_i32_195 : BitVec 32 := 0#32
  ![0, v108.toNat, 14, 0]
def k0_off32 (d0 : Dev nD) : Fin 4 → Nat :=
  let c0_i32_196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_90 : BitVec 32 := 512#32
  let v108 : BitVec 32 := Scalar.muli v2 c512_i32_90
  let c15_i32_197 : BitVec 32 := 15#32
  let c0_i32_202 : BitVec 32 := 0#32
  ![0, v108.toNat, 15, 0]
def k0_dev1 (d0 : Dev nD) : Nat :=
  let c0_i32_205 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_204 : BitVec 32 := 8#32
  let v206 : BitVec 32 := Scalar.muli v9 c8_i32_204
  let v207 : BitVec 32 := Scalar.addi c0_i32_205 v206
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v208 : BitVec 32 := Scalar.muli v5 c4_i32_206
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v210 : BitVec 32 := Scalar.muli v8 c1_i32_207
  let v211 : BitVec 32 := Scalar.addi v209 v210
  v211.toNat
def k0_dev2 (d0 : Dev nD) : Nat :=
  let c0_i32_337 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_336 : BitVec 32 := 8#32
  let v320 : BitVec 32 := Scalar.muli v9 c8_i32_336
  let v321 : BitVec 32 := Scalar.addi c0_i32_337 v320
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_338 : BitVec 32 := 4#32
  let v322 : BitVec 32 := Scalar.muli v5 c4_i32_338
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_339 : BitVec 32 := 1#32
  let v324 : BitVec 32 := Scalar.muli v8 c1_i32_339
  let v325 : BitVec 32 := Scalar.addi v323 v324
  v325.toNat
def k0_dev3 (d0 : Dev nD) : Nat :=
  let c0_i32_356 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_355 : BitVec 32 := 8#32
  let v341 : BitVec 32 := Scalar.muli v9 c8_i32_355
  let v342 : BitVec 32 := Scalar.addi c0_i32_356 v341
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_357 : BitVec 32 := 4#32
  let v343 : BitVec 32 := Scalar.muli v5 c4_i32_357
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_358 : BitVec 32 := 1#32
  let v345 : BitVec 32 := Scalar.muli v8 c1_i32_358
  let v346 : BitVec 32 := Scalar.addi v344 v345
  v346.toNat
def k0_dev4 (d0 : Dev nD) : Nat :=
  let c0_i32_375 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_374 : BitVec 32 := 8#32
  let v362 : BitVec 32 := Scalar.muli v9 c8_i32_374
  let v363 : BitVec 32 := Scalar.addi c0_i32_375 v362
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_376 : BitVec 32 := 4#32
  let v364 : BitVec 32 := Scalar.muli v5 c4_i32_376
  let v365 : BitVec 32 := Scalar.addi v363 v364
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v366 : BitVec 32 := Scalar.muli v8 c1_i32_377
  let v367 : BitVec 32 := Scalar.addi v365 v366
  v367.toNat
def k0_dev5 (d0 : Dev nD) : Nat :=
  let c0_i32_393 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_392 : BitVec 32 := 8#32
  let v383 : BitVec 32 := Scalar.muli v9 c8_i32_392
  let v384 : BitVec 32 := Scalar.addi c0_i32_393 v383
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_394 : BitVec 32 := 4#32
  let v385 : BitVec 32 := Scalar.muli v5 c4_i32_394
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_395 : BitVec 32 := 1#32
  let v387 : BitVec 32 := Scalar.muli v8 c1_i32_395
  let v388 : BitVec 32 := Scalar.addi v386 v387
  v388.toNat
def k0_off33 (d0 : Dev nD) : Fin 4 → Nat :=
  let c1_i32_401 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c0_i32_402 : BitVec 32 := 0#32
  let c0_i32_407 : BitVec 32 := 0#32
  ![1, v398.toNat, 0, 0]
def k0_off34 (d0 : Dev nD) : Fin 4 → Nat :=
  let c1_i32_408 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c1_i32_409 : BitVec 32 := 1#32
  let c0_i32_414 : BitVec 32 := 0#32
  ![1, v398.toNat, 1, 0]
def k0_off35 (d0 : Dev nD) : Fin 4 → Nat :=
  let c1_i32_415 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c2_i32_416 : BitVec 32 := 2#32
  let c0_i32_421 : BitVec 32 := 0#32
  ![1, v398.toNat, 2, 0]
def k0_off36 (d0 : Dev nD) : Fin 4 → Nat :=
  let c1_i32_422 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c3_i32_423 : BitVec 32 := 3#32
  let c0_i32_428 : BitVec 32 := 0#32
  ![1, v398.toNat, 3, 0]
def k0_off37 (d0 : Dev nD) : Fin 4 → Nat :=
  let c1_i32_429 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c4_i32_430 : BitVec 32 := 4#32
  let c0_i32_435 : BitVec 32 := 0#32
  ![1, v398.toNat, 4, 0]
def k0_off38 (d0 : Dev nD) : Fin 4 → Nat :=
  let c1_i32_436 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c5_i32_437 : BitVec 32 := 5#32
  let c0_i32_442 : BitVec 32 := 0#32
  ![1, v398.toNat, 5, 0]
def k0_off39 (d0 : Dev nD) : Fin 4 → Nat :=
  let c1_i32_443 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c6_i32_444 : BitVec 32 := 6#32
  let c0_i32_449 : BitVec 32 := 0#32
  ![1, v398.toNat, 6, 0]
def k0_off40 (d0 : Dev nD) : Fin 4 → Nat :=
  let c1_i32_450 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c7_i32_451 : BitVec 32 := 7#32
  let c0_i32_456 : BitVec 32 := 0#32
  ![1, v398.toNat, 7, 0]
def k0_off41 (d0 : Dev nD) : Fin 4 → Nat :=
  let c1_i32_457 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c8_i32_458 : BitVec 32 := 8#32
  let c0_i32_463 : BitVec 32 := 0#32
  ![1, v398.toNat, 8, 0]
def k0_off42 (d0 : Dev nD) : Fin 4 → Nat :=
  let c1_i32_464 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c9_i32_465 : BitVec 32 := 9#32
  let c0_i32_470 : BitVec 32 := 0#32
  ![1, v398.toNat, 9, 0]
def k0_off43 (d0 : Dev nD) : Fin 4 → Nat :=
  let c1_i32_471 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c10_i32_472 : BitVec 32 := 10#32
  let c0_i32_477 : BitVec 32 := 0#32
  ![1, v398.toNat, 10, 0]
def k0_off44 (d0 : Dev nD) : Fin 4 → Nat :=
  let c1_i32_478 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c11_i32_479 : BitVec 32 := 11#32
  let c0_i32_484 : BitVec 32 := 0#32
  ![1, v398.toNat, 11, 0]
def k0_off45 (d0 : Dev nD) : Fin 4 → Nat :=
  let c1_i32_485 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c12_i32_486 : BitVec 32 := 12#32
  let c0_i32_491 : BitVec 32 := 0#32
  ![1, v398.toNat, 12, 0]
def k0_off46 (d0 : Dev nD) : Fin 4 → Nat :=
  let c1_i32_492 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c13_i32_493 : BitVec 32 := 13#32
  let c0_i32_498 : BitVec 32 := 0#32
  ![1, v398.toNat, 13, 0]
def k0_off47 (d0 : Dev nD) : Fin 4 → Nat :=
  let c1_i32_499 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c14_i32_500 : BitVec 32 := 14#32
  let c0_i32_505 : BitVec 32 := 0#32
  ![1, v398.toNat, 14, 0]
def k0_off48 (d0 : Dev nD) : Fin 4 → Nat :=
  let c1_i32_506 : BitVec 32 := 1#32
  let c1_i32_399 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v397 : BitVec 32 := Scalar.subi c1_i32_399 v2
  let c512_i32_400 : BitVec 32 := 512#32
  let v398 : BitVec 32 := Scalar.muli v397 c512_i32_400
  let c15_i32_507 : BitVec 32 := 15#32
  let c0_i32_512 : BitVec 32 := 0#32
  ![1, v398.toNat, 15, 0]
def k0_off49 (d0 : Dev nD) : Fin 4 → Nat :=
  let c1_i32_653 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c0_i32_654 : BitVec 32 := 0#32
  let c0_i32_659 : BitVec 32 := 0#32
  ![1, v623.toNat, 0, 0]
def k0_off50 (d0 : Dev nD) : Fin 4 → Nat :=
  let c1_i32_660 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c1_i32_661 : BitVec 32 := 1#32
  let c0_i32_666 : BitVec 32 := 0#32
  ![1, v623.toNat, 1, 0]
def k0_off51 (d0 : Dev nD) : Fin 4 → Nat :=
  let c1_i32_667 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c2_i32_668 : BitVec 32 := 2#32
  let c0_i32_673 : BitVec 32 := 0#32
  ![1, v623.toNat, 2, 0]
def k0_off52 (d0 : Dev nD) : Fin 4 → Nat :=
  let c1_i32_674 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c3_i32_675 : BitVec 32 := 3#32
  let c0_i32_680 : BitVec 32 := 0#32
  ![1, v623.toNat, 3, 0]
def k0_off53 (d0 : Dev nD) : Fin 4 → Nat :=
  let c1_i32_681 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c4_i32_682 : BitVec 32 := 4#32
  let c0_i32_687 : BitVec 32 := 0#32
  ![1, v623.toNat, 4, 0]
def k0_off54 (d0 : Dev nD) : Fin 4 → Nat :=
  let c1_i32_688 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c5_i32_689 : BitVec 32 := 5#32
  let c0_i32_694 : BitVec 32 := 0#32
  ![1, v623.toNat, 5, 0]
def k0_off55 (d0 : Dev nD) : Fin 4 → Nat :=
  let c1_i32_695 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c6_i32_696 : BitVec 32 := 6#32
  let c0_i32_701 : BitVec 32 := 0#32
  ![1, v623.toNat, 6, 0]
def k0_off56 (d0 : Dev nD) : Fin 4 → Nat :=
  let c1_i32_702 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c7_i32_703 : BitVec 32 := 7#32
  let c0_i32_708 : BitVec 32 := 0#32
  ![1, v623.toNat, 7, 0]
def k0_off57 (d0 : Dev nD) : Fin 4 → Nat :=
  let c1_i32_709 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c8_i32_710 : BitVec 32 := 8#32
  let c0_i32_715 : BitVec 32 := 0#32
  ![1, v623.toNat, 8, 0]
def k0_off58 (d0 : Dev nD) : Fin 4 → Nat :=
  let c1_i32_716 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c9_i32_717 : BitVec 32 := 9#32
  let c0_i32_722 : BitVec 32 := 0#32
  ![1, v623.toNat, 9, 0]
def k0_off59 (d0 : Dev nD) : Fin 4 → Nat :=
  let c1_i32_723 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c10_i32_724 : BitVec 32 := 10#32
  let c0_i32_729 : BitVec 32 := 0#32
  ![1, v623.toNat, 10, 0]
def k0_off60 (d0 : Dev nD) : Fin 4 → Nat :=
  let c1_i32_730 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c11_i32_731 : BitVec 32 := 11#32
  let c0_i32_736 : BitVec 32 := 0#32
  ![1, v623.toNat, 11, 0]
def k0_off61 (d0 : Dev nD) : Fin 4 → Nat :=
  let c1_i32_737 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c12_i32_738 : BitVec 32 := 12#32
  let c0_i32_743 : BitVec 32 := 0#32
  ![1, v623.toNat, 12, 0]
def k0_off62 (d0 : Dev nD) : Fin 4 → Nat :=
  let c1_i32_744 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c13_i32_745 : BitVec 32 := 13#32
  let c0_i32_750 : BitVec 32 := 0#32
  ![1, v623.toNat, 13, 0]
def k0_off63 (d0 : Dev nD) : Fin 4 → Nat :=
  let c1_i32_751 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c14_i32_752 : BitVec 32 := 14#32
  let c0_i32_757 : BitVec 32 := 0#32
  ![1, v623.toNat, 14, 0]
def k0_off64 (d0 : Dev nD) : Fin 4 → Nat :=
  let c1_i32_758 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_652 : BitVec 32 := 512#32
  let v623 : BitVec 32 := Scalar.muli v2 c512_i32_652
  let c15_i32_759 : BitVec 32 := 15#32
  let c0_i32_764 : BitVec 32 := 0#32
  ![1, v623.toNat, 15, 0]
def k0_dev6 (d0 : Dev nD) : Nat :=
  let c0_i32_895 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_894 : BitVec 32 := 8#32
  let v828 : BitVec 32 := Scalar.muli v9 c8_i32_894
  let v829 : BitVec 32 := Scalar.addi c0_i32_895 v828
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_896 : BitVec 32 := 4#32
  let v830 : BitVec 32 := Scalar.muli v5 c4_i32_896
  let v831 : BitVec 32 := Scalar.addi v829 v830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_897 : BitVec 32 := 1#32
  let v832 : BitVec 32 := Scalar.muli v8 c1_i32_897
  let v833 : BitVec 32 := Scalar.addi v831 v832
  v833.toNat
def k0_dev7 (d0 : Dev nD) : Nat :=
  let c0_i32_915 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_914 : BitVec 32 := 8#32
  let v849 : BitVec 32 := Scalar.muli v9 c8_i32_914
  let v850 : BitVec 32 := Scalar.addi c0_i32_915 v849
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_916 : BitVec 32 := 4#32
  let v851 : BitVec 32 := Scalar.muli v5 c4_i32_916
  let v852 : BitVec 32 := Scalar.addi v850 v851
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_917 : BitVec 32 := 1#32
  let v853 : BitVec 32 := Scalar.muli v8 c1_i32_917
  let v854 : BitVec 32 := Scalar.addi v852 v853
  v854.toNat
def k0_dev8 (d0 : Dev nD) : Nat :=
  let c0_i32_935 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_934 : BitVec 32 := 8#32
  let v870 : BitVec 32 := Scalar.muli v9 c8_i32_934
  let v871 : BitVec 32 := Scalar.addi c0_i32_935 v870
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_936 : BitVec 32 := 4#32
  let v872 : BitVec 32 := Scalar.muli v5 c4_i32_936
  let v873 : BitVec 32 := Scalar.addi v871 v872
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_937 : BitVec 32 := 1#32
  let v874 : BitVec 32 := Scalar.muli v8 c1_i32_937
  let v875 : BitVec 32 := Scalar.addi v873 v874
  v875.toNat
def k0_dev9 (d0 : Dev nD) : Nat :=
  let c0_i32_955 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_954 : BitVec 32 := 8#32
  let v891 : BitVec 32 := Scalar.muli v9 c8_i32_954
  let v892 : BitVec 32 := Scalar.addi c0_i32_955 v891
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_956 : BitVec 32 := 4#32
  let v893 : BitVec 32 := Scalar.muli v5 c4_i32_956
  let v894 : BitVec 32 := Scalar.addi v892 v893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_957 : BitVec 32 := 1#32
  let v895 : BitVec 32 := Scalar.muli v8 c1_i32_957
  let v896 : BitVec 32 := Scalar.addi v894 v895
  v896.toNat
def k0_off65 (d0 : Dev nD) : Fin 4 → Nat :=
  let c2_i32_964 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c0_i32_965 : BitVec 32 := 0#32
  let c0_i32_970 : BitVec 32 := 0#32
  ![2, v906.toNat, 0, 0]
def k0_off66 (d0 : Dev nD) : Fin 4 → Nat :=
  let c2_i32_971 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c1_i32_972 : BitVec 32 := 1#32
  let c0_i32_977 : BitVec 32 := 0#32
  ![2, v906.toNat, 1, 0]
def k0_off67 (d0 : Dev nD) : Fin 4 → Nat :=
  let c2_i32_978 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c2_i32_979 : BitVec 32 := 2#32
  let c0_i32_984 : BitVec 32 := 0#32
  ![2, v906.toNat, 2, 0]
def k0_off68 (d0 : Dev nD) : Fin 4 → Nat :=
  let c2_i32_985 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c3_i32_986 : BitVec 32 := 3#32
  let c0_i32_991 : BitVec 32 := 0#32
  ![2, v906.toNat, 3, 0]
def k0_off69 (d0 : Dev nD) : Fin 4 → Nat :=
  let c2_i32_992 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c4_i32_993 : BitVec 32 := 4#32
  let c0_i32_998 : BitVec 32 := 0#32
  ![2, v906.toNat, 4, 0]
def k0_off70 (d0 : Dev nD) : Fin 4 → Nat :=
  let c2_i32_999 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c5_i32_1000 : BitVec 32 := 5#32
  let c0_i32_1005 : BitVec 32 := 0#32
  ![2, v906.toNat, 5, 0]
def k0_off71 (d0 : Dev nD) : Fin 4 → Nat :=
  let c2_i32_1006 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c6_i32_1007 : BitVec 32 := 6#32
  let c0_i32_1012 : BitVec 32 := 0#32
  ![2, v906.toNat, 6, 0]
def k0_off72 (d0 : Dev nD) : Fin 4 → Nat :=
  let c2_i32_1013 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c7_i32_1014 : BitVec 32 := 7#32
  let c0_i32_1019 : BitVec 32 := 0#32
  ![2, v906.toNat, 7, 0]
def k0_off73 (d0 : Dev nD) : Fin 4 → Nat :=
  let c2_i32_1020 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c8_i32_1021 : BitVec 32 := 8#32
  let c0_i32_1026 : BitVec 32 := 0#32
  ![2, v906.toNat, 8, 0]
def k0_off74 (d0 : Dev nD) : Fin 4 → Nat :=
  let c2_i32_1027 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c9_i32_1028 : BitVec 32 := 9#32
  let c0_i32_1033 : BitVec 32 := 0#32
  ![2, v906.toNat, 9, 0]
def k0_off75 (d0 : Dev nD) : Fin 4 → Nat :=
  let c2_i32_1034 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c10_i32_1035 : BitVec 32 := 10#32
  let c0_i32_1040 : BitVec 32 := 0#32
  ![2, v906.toNat, 10, 0]
def k0_off76 (d0 : Dev nD) : Fin 4 → Nat :=
  let c2_i32_1041 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c11_i32_1042 : BitVec 32 := 11#32
  let c0_i32_1047 : BitVec 32 := 0#32
  ![2, v906.toNat, 11, 0]
def k0_off77 (d0 : Dev nD) : Fin 4 → Nat :=
  let c2_i32_1048 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c12_i32_1049 : BitVec 32 := 12#32
  let c0_i32_1054 : BitVec 32 := 0#32
  ![2, v906.toNat, 12, 0]
def k0_off78 (d0 : Dev nD) : Fin 4 → Nat :=
  let c2_i32_1055 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c13_i32_1056 : BitVec 32 := 13#32
  let c0_i32_1061 : BitVec 32 := 0#32
  ![2, v906.toNat, 13, 0]
def k0_off79 (d0 : Dev nD) : Fin 4 → Nat :=
  let c2_i32_1062 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c14_i32_1063 : BitVec 32 := 14#32
  let c0_i32_1068 : BitVec 32 := 0#32
  ![2, v906.toNat, 14, 0]
def k0_off80 (d0 : Dev nD) : Fin 4 → Nat :=
  let c2_i32_1069 : BitVec 32 := 2#32
  let c1_i32_962 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v905 : BitVec 32 := Scalar.subi c1_i32_962 v2
  let c512_i32_963 : BitVec 32 := 512#32
  let v906 : BitVec 32 := Scalar.muli v905 c512_i32_963
  let c15_i32_1070 : BitVec 32 := 15#32
  let c0_i32_1075 : BitVec 32 := 0#32
  ![2, v906.toNat, 15, 0]
def k0_off81 (d0 : Dev nD) : Fin 4 → Nat :=
  let c2_i32_1217 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c0_i32_1218 : BitVec 32 := 0#32
  let c0_i32_1223 : BitVec 32 := 0#32
  ![2, v1131.toNat, 0, 0]
def k0_off82 (d0 : Dev nD) : Fin 4 → Nat :=
  let c2_i32_1224 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c1_i32_1225 : BitVec 32 := 1#32
  let c0_i32_1230 : BitVec 32 := 0#32
  ![2, v1131.toNat, 1, 0]
def k0_off83 (d0 : Dev nD) : Fin 4 → Nat :=
  let c2_i32_1231 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c2_i32_1232 : BitVec 32 := 2#32
  let c0_i32_1237 : BitVec 32 := 0#32
  ![2, v1131.toNat, 2, 0]
def k0_off84 (d0 : Dev nD) : Fin 4 → Nat :=
  let c2_i32_1238 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c3_i32_1239 : BitVec 32 := 3#32
  let c0_i32_1244 : BitVec 32 := 0#32
  ![2, v1131.toNat, 3, 0]
def k0_off85 (d0 : Dev nD) : Fin 4 → Nat :=
  let c2_i32_1245 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c4_i32_1246 : BitVec 32 := 4#32
  let c0_i32_1251 : BitVec 32 := 0#32
  ![2, v1131.toNat, 4, 0]
def k0_off86 (d0 : Dev nD) : Fin 4 → Nat :=
  let c2_i32_1252 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c5_i32_1253 : BitVec 32 := 5#32
  let c0_i32_1258 : BitVec 32 := 0#32
  ![2, v1131.toNat, 5, 0]
def k0_off87 (d0 : Dev nD) : Fin 4 → Nat :=
  let c2_i32_1259 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c6_i32_1260 : BitVec 32 := 6#32
  let c0_i32_1265 : BitVec 32 := 0#32
  ![2, v1131.toNat, 6, 0]
def k0_off88 (d0 : Dev nD) : Fin 4 → Nat :=
  let c2_i32_1266 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c7_i32_1267 : BitVec 32 := 7#32
  let c0_i32_1272 : BitVec 32 := 0#32
  ![2, v1131.toNat, 7, 0]
def k0_off89 (d0 : Dev nD) : Fin 4 → Nat :=
  let c2_i32_1273 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c8_i32_1274 : BitVec 32 := 8#32
  let c0_i32_1279 : BitVec 32 := 0#32
  ![2, v1131.toNat, 8, 0]
def k0_off90 (d0 : Dev nD) : Fin 4 → Nat :=
  let c2_i32_1280 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c9_i32_1281 : BitVec 32 := 9#32
  let c0_i32_1286 : BitVec 32 := 0#32
  ![2, v1131.toNat, 9, 0]
def k0_off91 (d0 : Dev nD) : Fin 4 → Nat :=
  let c2_i32_1287 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c10_i32_1288 : BitVec 32 := 10#32
  let c0_i32_1293 : BitVec 32 := 0#32
  ![2, v1131.toNat, 10, 0]
def k0_off92 (d0 : Dev nD) : Fin 4 → Nat :=
  let c2_i32_1294 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c11_i32_1295 : BitVec 32 := 11#32
  let c0_i32_1300 : BitVec 32 := 0#32
  ![2, v1131.toNat, 11, 0]
def k0_off93 (d0 : Dev nD) : Fin 4 → Nat :=
  let c2_i32_1301 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c12_i32_1302 : BitVec 32 := 12#32
  let c0_i32_1307 : BitVec 32 := 0#32
  ![2, v1131.toNat, 12, 0]
def k0_off94 (d0 : Dev nD) : Fin 4 → Nat :=
  let c2_i32_1308 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c13_i32_1309 : BitVec 32 := 13#32
  let c0_i32_1314 : BitVec 32 := 0#32
  ![2, v1131.toNat, 13, 0]
def k0_off95 (d0 : Dev nD) : Fin 4 → Nat :=
  let c2_i32_1315 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c14_i32_1316 : BitVec 32 := 14#32
  let c0_i32_1321 : BitVec 32 := 0#32
  ![2, v1131.toNat, 14, 0]
def k0_off96 (d0 : Dev nD) : Fin 4 → Nat :=
  let c2_i32_1322 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1216 : BitVec 32 := 512#32
  let v1131 : BitVec 32 := Scalar.muli v2 c512_i32_1216
  let c15_i32_1323 : BitVec 32 := 15#32
  let c0_i32_1328 : BitVec 32 := 0#32
  ![2, v1131.toNat, 15, 0]
def k0_dev10 (d0 : Dev nD) : Nat :=
  let c0_i32_1423 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1422 : BitVec 32 := 8#32
  let v1308 : BitVec 32 := Scalar.muli v9 c8_i32_1422
  let v1309 : BitVec 32 := Scalar.addi c0_i32_1423 v1308
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1424 : BitVec 32 := 4#32
  let v1310 : BitVec 32 := Scalar.muli v5 c4_i32_1424
  let v1311 : BitVec 32 := Scalar.addi v1309 v1310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1425 : BitVec 32 := 1#32
  let v1312 : BitVec 32 := Scalar.muli v8 c1_i32_1425
  let v1313 : BitVec 32 := Scalar.addi v1311 v1312
  v1313.toNat
def k0_dev11 (d0 : Dev nD) : Nat :=
  let c0_i32_1602 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1601 : BitVec 32 := 8#32
  let v1446 : BitVec 32 := Scalar.muli v9 c8_i32_1601
  let v1447 : BitVec 32 := Scalar.addi c0_i32_1602 v1446
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1603 : BitVec 32 := 4#32
  let v1448 : BitVec 32 := Scalar.muli v5 c4_i32_1603
  let v1449 : BitVec 32 := Scalar.addi v1447 v1448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1604 : BitVec 32 := 1#32
  let v1450 : BitVec 32 := Scalar.muli v8 c1_i32_1604
  let v1451 : BitVec 32 := Scalar.addi v1449 v1450
  v1451.toNat
def k0_dev12 (d0 : Dev nD) : Nat :=
  let c0_i32_1622 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1621 : BitVec 32 := 8#32
  let v1467 : BitVec 32 := Scalar.muli v9 c8_i32_1621
  let v1468 : BitVec 32 := Scalar.addi c0_i32_1622 v1467
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1623 : BitVec 32 := 4#32
  let v1469 : BitVec 32 := Scalar.muli v5 c4_i32_1623
  let v1470 : BitVec 32 := Scalar.addi v1468 v1469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1624 : BitVec 32 := 1#32
  let v1471 : BitVec 32 := Scalar.muli v8 c1_i32_1624
  let v1472 : BitVec 32 := Scalar.addi v1470 v1471
  v1472.toNat
def k0_dev13 (d0 : Dev nD) : Nat :=
  let c0_i32_1642 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1641 : BitVec 32 := 8#32
  let v1488 : BitVec 32 := Scalar.muli v9 c8_i32_1641
  let v1489 : BitVec 32 := Scalar.addi c0_i32_1642 v1488
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1643 : BitVec 32 := 4#32
  let v1490 : BitVec 32 := Scalar.muli v5 c4_i32_1643
  let v1491 : BitVec 32 := Scalar.addi v1489 v1490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1644 : BitVec 32 := 1#32
  let v1492 : BitVec 32 := Scalar.muli v8 c1_i32_1644
  let v1493 : BitVec 32 := Scalar.addi v1491 v1492
  v1493.toNat
def k0_dev14 (d0 : Dev nD) : Nat :=
  let c0_i32_1662 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1661 : BitVec 32 := 8#32
  let v1509 : BitVec 32 := Scalar.muli v9 c8_i32_1661
  let v1510 : BitVec 32 := Scalar.addi c0_i32_1662 v1509
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1663 : BitVec 32 := 4#32
  let v1511 : BitVec 32 := Scalar.muli v5 c4_i32_1663
  let v1512 : BitVec 32 := Scalar.addi v1510 v1511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1664 : BitVec 32 := 1#32
  let v1513 : BitVec 32 := Scalar.muli v8 c1_i32_1664
  let v1514 : BitVec 32 := Scalar.addi v1512 v1513
  v1514.toNat
def k0_off97 (d0 : Dev nD) : Fin 4 → Nat :=
  let c3_i32_1671 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c0_i32_1672 : BitVec 32 := 0#32
  let c0_i32_1677 : BitVec 32 := 0#32
  ![3, v1524.toNat, 0, 0]
def k0_off98 (d0 : Dev nD) : Fin 4 → Nat :=
  let c3_i32_1678 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c1_i32_1679 : BitVec 32 := 1#32
  let c0_i32_1684 : BitVec 32 := 0#32
  ![3, v1524.toNat, 1, 0]
def k0_off99 (d0 : Dev nD) : Fin 4 → Nat :=
  let c3_i32_1685 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c2_i32_1686 : BitVec 32 := 2#32
  let c0_i32_1691 : BitVec 32 := 0#32
  ![3, v1524.toNat, 2, 0]
def k0_off100 (d0 : Dev nD) : Fin 4 → Nat :=
  let c3_i32_1692 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c3_i32_1693 : BitVec 32 := 3#32
  let c0_i32_1698 : BitVec 32 := 0#32
  ![3, v1524.toNat, 3, 0]
def k0_off101 (d0 : Dev nD) : Fin 4 → Nat :=
  let c3_i32_1699 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c4_i32_1700 : BitVec 32 := 4#32
  let c0_i32_1705 : BitVec 32 := 0#32
  ![3, v1524.toNat, 4, 0]
def k0_off102 (d0 : Dev nD) : Fin 4 → Nat :=
  let c3_i32_1706 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c5_i32_1707 : BitVec 32 := 5#32
  let c0_i32_1712 : BitVec 32 := 0#32
  ![3, v1524.toNat, 5, 0]
def k0_off103 (d0 : Dev nD) : Fin 4 → Nat :=
  let c3_i32_1713 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c6_i32_1714 : BitVec 32 := 6#32
  let c0_i32_1719 : BitVec 32 := 0#32
  ![3, v1524.toNat, 6, 0]
def k0_off104 (d0 : Dev nD) : Fin 4 → Nat :=
  let c3_i32_1720 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c7_i32_1721 : BitVec 32 := 7#32
  let c0_i32_1726 : BitVec 32 := 0#32
  ![3, v1524.toNat, 7, 0]
def k0_off105 (d0 : Dev nD) : Fin 4 → Nat :=
  let c3_i32_1727 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c8_i32_1728 : BitVec 32 := 8#32
  let c0_i32_1733 : BitVec 32 := 0#32
  ![3, v1524.toNat, 8, 0]
def k0_off106 (d0 : Dev nD) : Fin 4 → Nat :=
  let c3_i32_1734 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c9_i32_1735 : BitVec 32 := 9#32
  let c0_i32_1740 : BitVec 32 := 0#32
  ![3, v1524.toNat, 9, 0]
def k0_off107 (d0 : Dev nD) : Fin 4 → Nat :=
  let c3_i32_1741 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c10_i32_1742 : BitVec 32 := 10#32
  let c0_i32_1747 : BitVec 32 := 0#32
  ![3, v1524.toNat, 10, 0]
def k0_off108 (d0 : Dev nD) : Fin 4 → Nat :=
  let c3_i32_1748 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c11_i32_1749 : BitVec 32 := 11#32
  let c0_i32_1754 : BitVec 32 := 0#32
  ![3, v1524.toNat, 11, 0]
def k0_off109 (d0 : Dev nD) : Fin 4 → Nat :=
  let c3_i32_1755 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c12_i32_1756 : BitVec 32 := 12#32
  let c0_i32_1761 : BitVec 32 := 0#32
  ![3, v1524.toNat, 12, 0]
def k0_off110 (d0 : Dev nD) : Fin 4 → Nat :=
  let c3_i32_1762 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c13_i32_1763 : BitVec 32 := 13#32
  let c0_i32_1768 : BitVec 32 := 0#32
  ![3, v1524.toNat, 13, 0]
def k0_off111 (d0 : Dev nD) : Fin 4 → Nat :=
  let c3_i32_1769 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c14_i32_1770 : BitVec 32 := 14#32
  let c0_i32_1775 : BitVec 32 := 0#32
  ![3, v1524.toNat, 14, 0]
def k0_off112 (d0 : Dev nD) : Fin 4 → Nat :=
  let c3_i32_1776 : BitVec 32 := 3#32
  let c1_i32_1669 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v1523 : BitVec 32 := Scalar.subi c1_i32_1669 v2
  let c512_i32_1670 : BitVec 32 := 512#32
  let v1524 : BitVec 32 := Scalar.muli v1523 c512_i32_1670
  let c15_i32_1777 : BitVec 32 := 15#32
  let c0_i32_1782 : BitVec 32 := 0#32
  ![3, v1524.toNat, 15, 0]
def k0_off113 (d0 : Dev nD) : Fin 4 → Nat :=
  let c3_i32_1923 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c0_i32_1924 : BitVec 32 := 0#32
  let c0_i32_1929 : BitVec 32 := 0#32
  ![3, v1749.toNat, 0, 0]
def k0_off114 (d0 : Dev nD) : Fin 4 → Nat :=
  let c3_i32_1930 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c1_i32_1931 : BitVec 32 := 1#32
  let c0_i32_1936 : BitVec 32 := 0#32
  ![3, v1749.toNat, 1, 0]
def k0_off115 (d0 : Dev nD) : Fin 4 → Nat :=
  let c3_i32_1937 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c2_i32_1938 : BitVec 32 := 2#32
  let c0_i32_1943 : BitVec 32 := 0#32
  ![3, v1749.toNat, 2, 0]
def k0_off116 (d0 : Dev nD) : Fin 4 → Nat :=
  let c3_i32_1944 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c3_i32_1945 : BitVec 32 := 3#32
  let c0_i32_1950 : BitVec 32 := 0#32
  ![3, v1749.toNat, 3, 0]
def k0_off117 (d0 : Dev nD) : Fin 4 → Nat :=
  let c3_i32_1951 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c4_i32_1952 : BitVec 32 := 4#32
  let c0_i32_1957 : BitVec 32 := 0#32
  ![3, v1749.toNat, 4, 0]
def k0_off118 (d0 : Dev nD) : Fin 4 → Nat :=
  let c3_i32_1958 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c5_i32_1959 : BitVec 32 := 5#32
  let c0_i32_1964 : BitVec 32 := 0#32
  ![3, v1749.toNat, 5, 0]
def k0_off119 (d0 : Dev nD) : Fin 4 → Nat :=
  let c3_i32_1965 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c6_i32_1966 : BitVec 32 := 6#32
  let c0_i32_1971 : BitVec 32 := 0#32
  ![3, v1749.toNat, 6, 0]
def k0_off120 (d0 : Dev nD) : Fin 4 → Nat :=
  let c3_i32_1972 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c7_i32_1973 : BitVec 32 := 7#32
  let c0_i32_1978 : BitVec 32 := 0#32
  ![3, v1749.toNat, 7, 0]
def k0_off121 (d0 : Dev nD) : Fin 4 → Nat :=
  let c3_i32_1979 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c8_i32_1980 : BitVec 32 := 8#32
  let c0_i32_1985 : BitVec 32 := 0#32
  ![3, v1749.toNat, 8, 0]
def k0_off122 (d0 : Dev nD) : Fin 4 → Nat :=
  let c3_i32_1986 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c9_i32_1987 : BitVec 32 := 9#32
  let c0_i32_1992 : BitVec 32 := 0#32
  ![3, v1749.toNat, 9, 0]
def k0_off123 (d0 : Dev nD) : Fin 4 → Nat :=
  let c3_i32_1993 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c10_i32_1994 : BitVec 32 := 10#32
  let c0_i32_1999 : BitVec 32 := 0#32
  ![3, v1749.toNat, 10, 0]
def k0_off124 (d0 : Dev nD) : Fin 4 → Nat :=
  let c3_i32_2000 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c11_i32_2001 : BitVec 32 := 11#32
  let c0_i32_2006 : BitVec 32 := 0#32
  ![3, v1749.toNat, 11, 0]
def k0_off125 (d0 : Dev nD) : Fin 4 → Nat :=
  let c3_i32_2007 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c12_i32_2008 : BitVec 32 := 12#32
  let c0_i32_2013 : BitVec 32 := 0#32
  ![3, v1749.toNat, 12, 0]
def k0_off126 (d0 : Dev nD) : Fin 4 → Nat :=
  let c3_i32_2014 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c13_i32_2015 : BitVec 32 := 13#32
  let c0_i32_2020 : BitVec 32 := 0#32
  ![3, v1749.toNat, 13, 0]
def k0_off127 (d0 : Dev nD) : Fin 4 → Nat :=
  let c3_i32_2021 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c14_i32_2022 : BitVec 32 := 14#32
  let c0_i32_2027 : BitVec 32 := 0#32
  ![3, v1749.toNat, 14, 0]
def k0_off128 (d0 : Dev nD) : Fin 4 → Nat :=
  let c3_i32_2028 : BitVec 32 := 3#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_1922 : BitVec 32 := 512#32
  let v1749 : BitVec 32 := Scalar.muli v2 c512_i32_1922
  let c15_i32_2029 : BitVec 32 := 15#32
  let c0_i32_2034 : BitVec 32 := 0#32
  ![3, v1749.toNat, 15, 0]
def k0_dev15 (d0 : Dev nD) : Nat :=
  let c0_i32_2129 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2128 : BitVec 32 := 8#32
  let v1926 : BitVec 32 := Scalar.muli v9 c8_i32_2128
  let v1927 : BitVec 32 := Scalar.addi c0_i32_2129 v1926
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2130 : BitVec 32 := 4#32
  let v1928 : BitVec 32 := Scalar.muli v5 c4_i32_2130
  let v1929 : BitVec 32 := Scalar.addi v1927 v1928
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2131 : BitVec 32 := 1#32
  let v1930 : BitVec 32 := Scalar.muli v8 c1_i32_2131
  let v1931 : BitVec 32 := Scalar.addi v1929 v1930
  v1931.toNat
def k0_dev16 (d0 : Dev nD) : Nat :=
  let c0_i32_2308 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2307 : BitVec 32 := 8#32
  let v2064 : BitVec 32 := Scalar.muli v9 c8_i32_2307
  let v2065 : BitVec 32 := Scalar.addi c0_i32_2308 v2064
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2309 : BitVec 32 := 4#32
  let v2066 : BitVec 32 := Scalar.muli v5 c4_i32_2309
  let v2067 : BitVec 32 := Scalar.addi v2065 v2066
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2310 : BitVec 32 := 1#32
  let v2068 : BitVec 32 := Scalar.muli v8 c1_i32_2310
  let v2069 : BitVec 32 := Scalar.addi v2067 v2068
  v2069.toNat
def k0_dev17 (d0 : Dev nD) : Nat :=
  let c0_i32_2328 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2327 : BitVec 32 := 8#32
  let v2085 : BitVec 32 := Scalar.muli v9 c8_i32_2327
  let v2086 : BitVec 32 := Scalar.addi c0_i32_2328 v2085
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2329 : BitVec 32 := 4#32
  let v2087 : BitVec 32 := Scalar.muli v5 c4_i32_2329
  let v2088 : BitVec 32 := Scalar.addi v2086 v2087
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2330 : BitVec 32 := 1#32
  let v2089 : BitVec 32 := Scalar.muli v8 c1_i32_2330
  let v2090 : BitVec 32 := Scalar.addi v2088 v2089
  v2090.toNat
def k0_dev18 (d0 : Dev nD) : Nat :=
  let c0_i32_2348 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2347 : BitVec 32 := 8#32
  let v2106 : BitVec 32 := Scalar.muli v9 c8_i32_2347
  let v2107 : BitVec 32 := Scalar.addi c0_i32_2348 v2106
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2349 : BitVec 32 := 4#32
  let v2108 : BitVec 32 := Scalar.muli v5 c4_i32_2349
  let v2109 : BitVec 32 := Scalar.addi v2107 v2108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2350 : BitVec 32 := 1#32
  let v2110 : BitVec 32 := Scalar.muli v8 c1_i32_2350
  let v2111 : BitVec 32 := Scalar.addi v2109 v2110
  v2111.toNat
def k0_dev19 (d0 : Dev nD) : Nat :=
  let c0_i32_2368 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_2367 : BitVec 32 := 8#32
  let v2127 : BitVec 32 := Scalar.muli v9 c8_i32_2367
  let v2128 : BitVec 32 := Scalar.addi c0_i32_2368 v2127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2369 : BitVec 32 := 4#32
  let v2129 : BitVec 32 := Scalar.muli v5 c4_i32_2369
  let v2130 : BitVec 32 := Scalar.addi v2128 v2129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2370 : BitVec 32 := 1#32
  let v2131 : BitVec 32 := Scalar.muli v8 c1_i32_2370
  let v2132 : BitVec 32 := Scalar.addi v2130 v2131
  v2132.toNat
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1024x32x128 : Shape := ⟨4, ![4, 1024, 32, 128]⟩
abbrev S4096x4096 : Shape := ⟨2, ![4096, 4096]⟩
abbrev S4x1024x4096 : Shape := ⟨3, ![4, 1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x32x128, .f32⟩
  | .hbm, ⟨1, _⟩ => ⟨S4096x4096, .f32⟩
  | .hbm, ⟨2, _⟩ => ⟨S4x1024x4096, .f32⟩
  | .hbm, ⟨3, _⟩ => ⟨S4x1024x4096, .f32⟩
  | _, _ => ⟨S4x1024x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/- The kernel's body written as a program over loops: the sixteen copies of a half of the heads, the four column
   chunks of a product, the four chunks sent, received and added. `body_eq` says that the printed body, unrolled, is
   this program. -/
module

public import proofs.«01_k».proof.Proof.Gen.KernelIdeal.Frame
public import proofs.«01_k».proof.Proof.Gen.KernelIdeal.Skeleton

@[expose] public section

noncomputable section

namespace Cert.KernelIdeal.OProj

open Idealize.ShloMosaic Idealize.ShloMosaic.TcCoe Idealize.SL.Sem Cert.KernelIdeal.Gen

variable {F : FTy → Type} [FloatOps F]

/-- A run of the kernel's operations on one device. -/
abbrev Code (F : FTy → Type) [FloatOps F] (α : Type) := Prog (TpuEff nD τ sig (Elt F) Λ₀ .tc) α

/-- `f 0`, then `f 1`, and so on to `f (n - 1)`. -/
def rep : (n : ℕ) → (Fin n → Code F PUnit) → Code F PUnit
  | 0, _ => pure ⟨⟩
  | n + 1, f => do f 0; rep n fun i => f i.succ

/-! ## The arrays -/

/-- The device's heads of the input. -/
abbrev xA : Memref sig .tc .hbm S4x1024x16x128 .f32 := Memref.whole main_arg0
/-- The device's rows of the weights, staged. -/
abbrev wA : Memref sig .tc .vmem S2048x4096 .bf16 := win0_0.stage 0
/-- The result, staged. -/
abbrev oA : Memref sig .tc .vmem S4x512x4096 .bf16 := win0_1.stage 0
/-- The two halves of a batch's rows: the peer's at 0, the device's own at 1. -/
abbrev tA : Memref sig .tc .vmem S2x512x2048 .f32 := Memref.whole cc0_scratch0
/-- What is sent, a slot per parity of the batch. -/
abbrev sA : Memref sig .tc .vmem S2x512x4096 .bf16 := Memref.whole cc0_scratch1
/-- What is received. -/
abbrev rA : Memref sig .tc .vmem S2x512x4096 .bf16 := Memref.whole cc0_scratch2

/-- The slot of batch `b`. -/
def slot (b : Fin 4) : Fin 2 := ⟨b.val % 2, Nat.mod_lt _ (by decide)⟩

/-! ## The addresses -/

/-- Where the copy of head `h` of a half of batch `b` reads, as the kernel computes it. -/
def offTab (d : Dev nD) : Fin 4 → Fin 2 → Fin 16 → Fin 4 → Nat :=
  ![
    ![![k0_off1 d, k0_off2 d, k0_off3 d, k0_off4 d, k0_off5 d, k0_off6 d, k0_off7 d, k0_off8 d, k0_off9 d, k0_off10 d, k0_off11 d, k0_off12 d, k0_off13 d, k0_off14 d, k0_off15 d, k0_off16 d],
      ![k0_off17 d, k0_off18 d, k0_off19 d, k0_off20 d, k0_off21 d, k0_off22 d, k0_off23 d, k0_off24 d, k0_off25 d, k0_off26 d, k0_off27 d, k0_off28 d, k0_off29 d, k0_off30 d, k0_off31 d, k0_off32 d]],
    ![![k0_off33 d, k0_off34 d, k0_off35 d, k0_off36 d, k0_off37 d, k0_off38 d, k0_off39 d, k0_off40 d, k0_off41 d, k0_off42 d, k0_off43 d, k0_off44 d, k0_off45 d, k0_off46 d, k0_off47 d, k0_off48 d],
      ![k0_off49 d, k0_off50 d, k0_off51 d, k0_off52 d, k0_off53 d, k0_off54 d, k0_off55 d, k0_off56 d, k0_off57 d, k0_off58 d, k0_off59 d, k0_off60 d, k0_off61 d, k0_off62 d, k0_off63 d, k0_off64 d]],
    ![![k0_off65 d, k0_off66 d, k0_off67 d, k0_off68 d, k0_off69 d, k0_off70 d, k0_off71 d, k0_off72 d, k0_off73 d, k0_off74 d, k0_off75 d, k0_off76 d, k0_off77 d, k0_off78 d, k0_off79 d, k0_off80 d],
      ![k0_off81 d, k0_off82 d, k0_off83 d, k0_off84 d, k0_off85 d, k0_off86 d, k0_off87 d, k0_off88 d, k0_off89 d, k0_off90 d, k0_off91 d, k0_off92 d, k0_off93 d, k0_off94 d, k0_off95 d, k0_off96 d]],
    ![![k0_off97 d, k0_off98 d, k0_off99 d, k0_off100 d, k0_off101 d, k0_off102 d, k0_off103 d, k0_off104 d, k0_off105 d, k0_off106 d, k0_off107 d, k0_off108 d, k0_off109 d, k0_off110 d, k0_off111 d, k0_off112 d],
      ![k0_off113 d, k0_off114 d, k0_off115 d, k0_off116 d, k0_off117 d, k0_off118 d, k0_off119 d, k0_off120 d, k0_off121 d, k0_off122 d, k0_off123 d, k0_off124 d, k0_off125 d, k0_off126 d, k0_off127 d, k0_off128 d]]]

/-- The device that chunk `j` of batch `b` is sent to, as the kernel computes it. -/
def devTab (d : Dev nD) : Fin 4 → Fin 4 → Nat :=
  ![![k0_dev2 d, k0_dev3 d, k0_dev4 d, k0_dev5 d], ![k0_dev6 d, k0_dev7 d, k0_dev8 d, k0_dev9 d], ![k0_dev11 d, k0_dev12 d, k0_dev13 d, k0_dev14 d], ![k0_dev16 d, k0_dev17 d, k0_dev18 d, k0_dev19 d]]

/-- The device that the credit for slot `s` is sent to, as the kernel computes it. -/
def creditTab (d : Dev nD) : Fin 2 → Nat := ![k0_dev10 d, k0_dev15 d]

theorem offTab_eq : ∀ (d : Dev nD) (b : Fin 4) (half : Fin 2) (h : Fin 16),
    offTab d b half h = ![b.val, if half = 0 then 512 - 512 * (d.val / 8) else 512 * (d.val / 8), h.val, 0] := by
  decide +kernel

theorem devTab_eq : ∀ (d : Dev nD) (b j : Fin 4),
    devTab d b j = (4 * ((d.val / 4) % 2) + (d.val % 4) + 8) - 8 * (d.val / 8) := by
  decide +kernel

theorem creditTab_eq : ∀ (d : Dev nD) (s : Fin 2),
    creditTab d s = (4 * ((d.val / 4) % 2) + (d.val % 4) + 8) - 8 * (d.val / 8) := by
  decide +kernel

theorem offTab_inb (d : Dev nD) (b : Fin 4) (half : Fin 2) (h : Fin 16) :
    ∀ a, offTab d b half h a + S1x512x1x128.size a ≤ S4x1024x16x128.size a := by
  rw [offTab_eq]; revert d b half h; decide +kernel

theorem devTab_lt (d : Dev nD) (b j : Fin 4) : devTab d b j < nD := by
  rw [devTab_eq]; revert d; decide +kernel

theorem creditTab_lt (d : Dev nD) (s : Fin 2) : creditTab d s < nD := by
  rw [creditTab_eq]; revert d; decide +kernel

/-! ## The parts of the arrays -/

theorem tile_inb (half : Fin 2) (h : Fin 16) :
    ∀ a, (![half.val, 0, 128 * h.val] : Fin 3 → Nat) a + S1x512x128.size a ≤ S2x512x2048.size a := by
  revert half h; decide

theorem half_inb (half : Fin 2) :
    ∀ a, (![half.val, 0, 0] : Fin 3 → Nat) a + S1x512x2048.size a ≤ S2x512x2048.size a := by
  revert half; decide

theorem col_inb (j : Fin 4) :
    ∀ a, (![0, 1024 * j.val] : Fin 2 → Nat) a + S2048x1024.size a ≤ S2048x4096.size a := by
  revert j; decide

theorem chunk_inb (s : Fin 2) (j : Fin 4) :
    ∀ a, (![s.val, 0, 1024 * j.val] : Fin 3 → Nat) a + S1x512x1024.size a ≤ S2x512x4096.size a := by
  revert s j; decide

theorem out_inb (b j : Fin 4) :
    ∀ a, (![b.val, 0, 1024 * j.val] : Fin 3 → Nat) a + S1x512x1024.size a ≤ S4x512x4096.size a := by
  revert b j; decide

theorem sem2_inb (s : Fin 2) : ∀ a, (![s.val] : Fin 1 → Nat) a + S1.size a ≤ S2.size a := by
  revert s; decide

theorem sem8_inb (s : Fin 2) (j : Fin 4) : ∀ a, (![s.val, j.val] : Fin 2 → Nat) a + S1x1.size a ≤ S2x4.size a := by
  revert s j; decide

/-- Columns `1024 j …` of the weights. -/
abbrev colR (j : Fin 4) : Rect S2048x4096 := Rect.unit (s := S2048x4096) ![0, 1024 * j.val] S2048x1024.size (col_inb j)
/-- Chunk `j` of slot `s` of a communication buffer. -/
abbrev chunkR (s : Fin 2) (j : Fin 4) : Rect S2x512x4096 :=
  Rect.unit (s := S2x512x4096) ![s.val, 0, 1024 * j.val] S1x512x1024.size (chunk_inb s j)
/-- Chunk `j` of batch `b` of the result. -/
abbrev outR (b j : Fin 4) : Rect S4x512x4096 :=
  Rect.unit (s := S4x512x4096) ![b.val, 0, 1024 * j.val] S1x512x1024.size (out_inb b j)
/-- A half's rows. -/
abbrev halfR (half : Fin 2) : Rect S2x512x2048 :=
  Rect.unit (s := S2x512x2048) ![half.val, 0, 0] S1x512x2048.size (half_inb half)

theorem chunk_packed : ∀ (s : Fin 2) (j : Fin 4), (chunkR s j).PackedRows (EltTy.packing .bf16) := by decide
theorem chunk_words : ∀ (s : Fin 2) (j : Fin 4), (chunkR s j).WholeWords (EltTy.packing .bf16) := by decide
theorem out_packed : ∀ (b j : Fin 4), (outR b j).PackedRows (EltTy.packing .bf16) := by decide

/-- The copies' source: head `h` of the half's rows of batch `b`. -/
abbrev xSrc (d : Dev nD) (b : Fin 4) (half : Fin 2) (h : Fin 16) : Memref sig .tc .hbm S512x128 .f32 :=
  (xA.slice (Rect.unit (s := S4x1024x16x128) (offTab d b half h) S1x512x1x128.size (offTab_inb d b half h)) (fun _ => rfl)).squeeze
    S512x128 squeezes_S1x512x1x128_S512x128
/-- The copies' destination. -/
abbrev xDst (half : Fin 2) (h : Fin 16) : Memref sig .tc .vmem S512x128 .f32 :=
  (tA.slice (Rect.unit (s := S2x512x2048) ![half.val, 0, 128 * h.val] S1x512x128.size (tile_inb half h)) (fun _ => rfl)).squeeze
    S512x128 squeezes_S1x512x128_S512x128
/-- The semaphore of a half's copies. -/
abbrev xSem (half : Fin 2) : DmaSem sig :=
  ((cc0_scratch3.slice (Rect.unit (s := S2) ![half.val] S1.size (sem2_inb half))).squeeze S_ squeezes_S1_S_).sem
/-- Chunk `j` of slot `s` of the sent buffer. -/
abbrev sChunk (s : Fin 2) (j : Fin 4) : Memref sig .tc .vmem S512x1024 .bf16 :=
  (sA.slice (chunkR s j) (fun _ => rfl)).squeeze S512x1024 squeezes_S1x512x1024_S512x1024
/-- Chunk `j` of slot `s` of the received buffer. -/
abbrev rChunk (s : Fin 2) (j : Fin 4) : Memref sig .tc .vmem S512x1024 .bf16 :=
  (rA.slice (chunkR s j) (fun _ => rfl)).squeeze S512x1024 squeezes_S1x512x1024_S512x1024
/-- The semaphore that counts the chunk out. -/
abbrev sSem (s : Fin 2) (j : Fin 4) : DmaSem sig :=
  ((cc0_scratch4.slice (Rect.unit (s := S2x4) ![s.val, j.val] S1x1.size (sem8_inb s j))).squeeze S_ squeezes_S1x1_S_).sem
/-- The semaphore that counts the chunk in. -/
abbrev rSem (s : Fin 2) (j : Fin 4) : DmaSem sig :=
  ((cc0_scratch5.slice (Rect.unit (s := S2x4) ![s.val, j.val] S1x1.size (sem8_inb s j))).squeeze S_ squeezes_S1x1_S_).sem
/-- The barrier's semaphore. -/
abbrev bSem : Sem sig := (SemArray.scalar (sig.barrier 0 rfl) : Sems sig S_).sem
/-- The credits' semaphore. -/
abbrev kSem : Sem sig := cc0_scratch6.sem

/-! ## The operations -/

/-- Start the copy of one head. -/
def startX (d : Dev nD) (b : Fin 4) (half : Fin 2) (h : Fin 16) : Code F PUnit :=
  Prog.lift (.enqueueDma (xSrc d b half h) (.here (xDst half h)) (.dma (xSem half)) ((View.wordExact_bits rfl).reshape _ _)
    ((View.wordExact_bits rfl).reshape _ _) ⟨Or.inl rfl, trivial⟩)

/-- Wait for the copy of one head. -/
def waitX (d : Dev nD) (b : Fin 4) (half : Fin 2) (h : Fin 16) : Code F PUnit :=
  Prog.lift (.waitDma2 (xSem half) (xSrc d b half h) (xDst half h) ((View.wordExact_bits rfl).reshape _ _)
    ((View.wordExact_bits rfl).reshape _ _))

/-- Read a half's rows. -/
def loadX (half : Fin 2) : Code F (Vec F S1x512x2048 .f32) :=
  Prog.lift (.load tA (halfR half).toLoadRect (View.loadsAt_vmem h_S1x512x2048))

/-- Read columns of the weights. -/
def loadW (j : Fin 4) : Code F (Vec F S2048x1024 .bf16) :=
  Prog.lift (.load wA (colR j).toLoadRect (View.loadsAt_vmem h_S2048x1024))

/-- Read a chunk of the result. -/
def loadO (b j : Fin 4) : Code F (Vec F S1x512x1024 .bf16) :=
  Prog.lift (.load oA (outR b j).toLoadRect (View.loadsAt_vmem h_S1x512x1024))

/-- Write a chunk of the result. -/
def storeO (b j : Fin 4) (v : FVec F S1x512x1024 .bf16) : Code F PUnit :=
  Prog.lift (.store oA (outR b j) v Finset.univ
    (View.stores_vmem h_S1x512x1024 ((hstage0_1 0).storeExact_slice rfl _ (out_packed b j)) (fun _ => rfl)) (.inl rfl))

/-- The product of a half's rows with columns of the weights. -/
abbrev prod (x : Vec F S1x512x2048 .f32) (w : Vec F S2048x1024 .bf16) : FVec F S1x512x1024 .bf16 := k0_pay2 x w

/-- The sum of two chunks. -/
abbrev sum2 (a r : Vec F S1x512x1024 .bf16) : FVec F S1x512x1024 .bf16 := k0_pay26 a r

/-- Compute chunk `j` of what the peer needs into slot `s`. -/
def putChunk (s : Fin 2) (x : Vec F S1x512x2048 .f32) (j : Fin 4) : Code F PUnit := do
  let w ← loadW j
  let _ : Vec F S1x512x1024 .bf16 ← Prog.lift (.load sA (chunkR s j).toLoadRect (View.loadsAt_vmem h_S1x512x1024))
  Prog.lift (.store sA (chunkR s j) (prod x w) Finset.univ
    (View.stores_vmem h_S1x512x1024 ((Memref.isWhole_whole _).storeExact_slice rfl _ (chunk_packed s j)) (fun _ => rfl)) (.inl rfl))

/-- Send chunk `j` of batch `b`. -/
def sendChunk (d : Dev nD) (b j : Fin 4) : Code F PUnit :=
  Prog.lift (.enqueueDma (sChunk (slot b) j) (.remote (Dev.tc (⟨devTab d b j, devTab_lt d b j⟩ : Dev nD)) (rChunk (slot b) j) (.dma (sSem (slot b) j)))
    (.dma (rSem (slot b) j)) (((Memref.isWhole_whole _).wordExact_slice rfl _ (chunk_words (slot b) j)).reshape _ _)
    (((Memref.isWhole_whole _).wordExact_slice rfl _ (chunk_words (slot b) j)).reshape _ _) ⟨⟨rfl, Or.inl rfl⟩, trivial⟩)

/-- Wait until chunk `j` of slot `s` has left. -/
def waitSent (s : Fin 2) (j : Fin 4) : Code F PUnit :=
  Prog.lift (.waitDma2 (sSem s j) (rChunk s j) (sChunk s j) (((Memref.isWhole_whole _).wordExact_slice rfl _ (chunk_words s j)).reshape _ _)
    (((Memref.isWhole_whole _).wordExact_slice rfl _ (chunk_words s j)).reshape _ _))

/-- Wait until chunk `j` of slot `s` has come. -/
def waitRecv (s : Fin 2) (j : Fin 4) : Code F PUnit :=
  Prog.lift (.waitDma2 (rSem s j) (sChunk s j) (rChunk s j) (((Memref.isWhole_whole _).wordExact_slice rfl _ (chunk_words s j)).reshape _ _)
    (((Memref.isWhole_whole _).wordExact_slice rfl _ (chunk_words s j)).reshape _ _))

/-- Compute chunk `j` of the device's own rows of batch `b` into the result. -/
def ownChunk (b : Fin 4) (x : Vec F S1x512x2048 .f32) (j : Fin 4) : Code F PUnit := do
  let w ← loadW j
  let _ ← loadO b j
  storeO b j (prod x w)

/-- Receive chunk `j` of batch `b` and add it to the result. -/
def addChunk (b j : Fin 4) : Code F PUnit := do
  waitRecv (slot b) j
  let a ← loadO b j
  let r : Vec F S1x512x1024 .bf16 ← Prog.lift (.load rA (chunkR (slot b) j).toLoadRect (View.loadsAt_vmem h_S1x512x1024))
  let _ ← loadO b j
  storeO b j (sum2 a r)

/-- Give the peer leave to use slot `s` again. -/
def giveCredit (d : Dev nD) (s : Fin 2) : Code F PUnit :=
  semSignalWord (⟨creditTab d s, creditTab_lt d s⟩ : Dev nD) kSem 1#32

/-- Signal the peer's barrier semaphore and wait for one's own. -/
def barrier (d : Dev nD) : Code F PUnit := do
  semSignalWord (⟨k0_dev1 d, k0_dev1_lt d⟩ : Dev nD) bSem 1#32
  semWaitWord bSem 1#32

/-! ## The body -/

/-- The peer's rows of a batch that waits for no one: wait for the copies, compute and send. -/
def shipFree (d : Dev nD) (b : Fin 4) : Code F PUnit := do
  rep 16 (waitX d b 0)
  let x ← loadX 0
  rep 4 fun j => do putChunk (slot b) x j; sendChunk d b j

/-- The peer's rows of a later batch: the slot's last chunks must have left, and the peer must have read its own. -/
def shipCredit (d : Dev nD) (b : Fin 4) : Code F PUnit := do
  rep 16 (waitX d b 0)
  rep 4 (waitSent (slot b))
  let x ← loadX 0
  putChunk (slot b) x 0
  semWaitWord kSem 1#32
  sendChunk d b 0
  rep 3 fun j => do putChunk (slot b) x j.succ; sendChunk d b j.succ

/-- The device's own rows of a batch. -/
def ownHalf (d : Dev nD) (b : Fin 4) : Code F PUnit := do
  rep 16 (waitX d b 1)
  let x ← loadX 1
  rep 4 (ownChunk b x)

/-- The whole body, on device `d`. -/
def bodyOn (d : Dev nD) : Code F PUnit := do
  rep 16 (startX d 0 0)
  rep 16 (startX d 0 1)
  barrier d
  shipFree d 0
  rep 16 (startX d 1 0)
  ownHalf d 0
  rep 16 (startX d 1 1)
  shipFree d 1
  rep 16 (startX d 2 0)
  ownHalf d 1
  rep 16 (startX d 2 1)
  rep 4 (addChunk 0)
  giveCredit d 0
  shipCredit d 2
  rep 16 (startX d 3 0)
  ownHalf d 2
  rep 16 (startX d 3 1)
  rep 4 (addChunk 1)
  giveCredit d 1
  shipCredit d 3
  ownHalf d 3
  rep 4 (addChunk 2)
  rep 4 (addChunk 3)
  rep 4 (waitSent 0)
  rep 4 (waitSent 1)

/-- The printed body is the program above on the device that runs it. -/
theorem body_eq (t : Fin cfg0.N) : bodyAt0 (F := F) t = (do let d ← Prog.lift .deviceId; bodyOn d) := by
  chain_rfl

end Cert.KernelIdeal.OProj

end
-- ==== Proof.Sched.lean ====
/- The protocol of the kernel: the peer of a device, the contents that travel, the semaphore cells with the rounds they
   go through, what every payment to them hands over, and the order in which waits may be made. -/
module

public import proofs.«01_k».proof.Proof.Prog
public import Idealize.ShloMosaic.Lib.Rounds
public import Idealize.ShloMosaic.Lib.Pipeline.Kit
public import Idealize.ShloMosaic.Lib.Pipeline.RegionTalk
public import Idealize.ShloMosaic.Lib.Tactic
public import Idealize.ShloMosaic.Lib.Release
public import Idealize.ShloMosaic.Lib.Ring
public import Idealize.ShloMosaic.Lib.ValueIdxCoords

@[expose] public section

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

/-! ## The peer -/

/-- The device on the other side of the exchanged axis. -/
def peer (c : Dev nD) : Dev nD :=
  ⟨(4 * ((c.val / 4) % 2) + (c.val % 4) + 8) - 8 * (c.val / 8), by revert c; decide +kernel⟩

theorem peer_peer : ∀ c : Dev nD, peer (peer c) = c := by decide +kernel

/-- The peer, as a permutation of the devices. -/
def peerEquiv : Dev nD ≃ Dev nD := ⟨peer, peer, peer_peer, peer_peer⟩

theorem devTab_peer (c : Dev nD) (b j : Fin 4) : (⟨devTab c b j, devTab_lt c b j⟩ : Dev nD) = peer c := Fin.ext (devTab_eq c b j)
theorem creditTab_peer (c : Dev nD) (s : Fin 2) : (⟨creditTab c s, creditTab_lt c s⟩ : Dev nD) = peer c := Fin.ext (creditTab_eq c s)
theorem dev1_peer : ∀ c : Dev nD, (⟨k0_dev1 c, k0_dev1_lt c⟩ : Dev nD) = peer c := by decide +kernel

/-- The round, at its slot's cells, of batch `b`. -/
def rnd (b : Fin 4) : Fin 2 := ⟨b.val / 2, by omega⟩
/-- The batch of a slot's round. -/
def batch (s : Fin 2) (r : ℕ) : Fin 4 := ⟨(2 * r + s.val) % 4, Nat.mod_lt _ (by decide)⟩
/-- The batch of a round of the copies. -/
def bat (r : ℕ) : Fin 4 := ⟨r % 4, Nat.mod_lt _ (by decide)⟩

theorem bat_val (b : Fin 4) : bat b.val = b := by revert b; decide
theorem batch_slot (b : Fin 4) : batch (slot b) (rnd b).val = b := by revert b; decide

/-! ## The contents

`X` is every device's input and `W` every device's staged weights. -/

section Values

variable (X : Dev nD → Vec F S4x1024x16x128 .f32) (W : Dev nD → Vec F S2048x4096 .bf16)

theorem row_lt : ∀ (c : Dev nD) (a : Fin 2), (if a = 0 then 512 - 512 * (c.val / 8) else 512 * (c.val / 8)) + 512 ≤ 1024 := by
  decide

/-- The first row of a half. -/
def row0 (c : Dev nD) (a : Fin 2) : ℕ := if a = 0 then 512 - 512 * (c.val / 8) else 512 * (c.val / 8)

theorem row0_le (c : Dev nD) (a : Fin 2) : row0 c a + 512 ≤ 1024 := row_lt c a

/-- The two halves of batch `b`, copied: a row's heads side by side. -/
def tileV (c : Dev nD) (b : Fin 4) : Vec F S2x512x2048 .f32 := fun i =>
  X c (ix4 b ⟨row0 c (i 0) + (i 1).val, by have := row0_le c (i 0); have h : (i 1).val < 512 := (i 1).isLt; omega⟩
    ⟨(i 2).val / 128, by have h : (i 2).val < 2048 := (i 2).isLt; omega⟩ ⟨(i 2).val % 128, Nat.mod_lt _ (by decide)⟩)

/-- A half's rows of batch `b`. -/
def rowsV (c : Dev nD) (b : Fin 4) (a : Fin 2) : Vec F S1x512x2048 .f32 := (tA.access (halfR a)).read (Elt F) (tileV X c b)
/-- Columns of the weights. -/
def colsV (c : Dev nD) (j : Fin 4) : Vec F S2048x1024 .bf16 := (wA.access (colR j)).read (Elt F) (W c)
/-- A chunk of the product of a half's rows with the weights. -/
def chunkV (c : Dev nD) (b : Fin 4) (a : Fin 2) (j : Fin 4) : Vec F S1x512x1024 .bf16 := prod (rowsV X c b a) (colsV W c j)
/-- A chunk of the result. -/
def outV (c : Dev nD) (b j : Fin 4) : Vec F S1x512x1024 .bf16 := sum2 (chunkV X W c b 1 j) (chunkV X W (peer c) b 0 j)

end Values

/-! ## The ghost state and the semaphore cells -/

/-- A chunk of a slot of a device's receive buffer. -/
abbrev Key := Dev nD × Fin 2 × Fin 4

/-- The copies of the library's algebras that the proof uses. -/
abbrev UU : Type := UR sig nD τ × (URounds (GSem nD τ sig) (Fin 16) × Release.USlots Key)

local notation "𝕄" => MT nD τ sig (Fin 2) (Elt F) ℕ UU ℕ

/-- The pipeline's rounds, the kernel's rounds and its slots. -/
abbrev EP : Emb (UR sig nD τ) (MT nD τ sig (Fin 2) (Elt F) ℕ UU ℕ) := embL
abbrev ER : Emb (URounds (GSem nD τ sig) (Fin 16)) (MT nD τ sig (Fin 2) (Elt F) ℕ UU ℕ) := Emb.inl.trans embR
abbrev ES : Emb (Release.USlots Key) (MT nD τ sig (Fin 2) (Elt F) ℕ UU ℕ) := Emb.inr.trans embR

/-- What a semaphore is for. -/
inductive Role where
  | copy (a : Fin 2)
  | sent (s : Fin 2) (j : Fin 4)
  | recv (s : Fin 2) (j : Fin 4)
  | credit
  | bar
  | other
deriving DecidableEq

/-- What each semaphore is for. -/
def roleOf : SemLoc sig → Role
  | .dma n => if n.val < 2 then .other else if n.val < 4 then .copy ⟨(n.val - 2) % 2, Nat.mod_lt _ (by decide)⟩
      else if n.val < 12 then .sent ⟨(n.val - 4) / 4 % 2, Nat.mod_lt _ (by decide)⟩ ⟨(n.val - 4) % 4, Nat.mod_lt _ (by decide)⟩
      else .recv ⟨(n.val - 12) / 4 % 2, Nat.mod_lt _ (by decide)⟩ ⟨(n.val - 12) % 4, Nat.mod_lt _ (by decide)⟩
  | .reg n => if n.val = 0 then .credit else .bar

theorem role_copy : ∀ a : Fin 2, roleOf (.dma (xSem a)) = .copy a := by decide
theorem role_sent : ∀ (s : Fin 2) (j : Fin 4), roleOf (.dma (sSem s j)) = .sent s j := by decide
theorem role_recv : ∀ (s : Fin 2) (j : Fin 4), roleOf (.dma (rSem s j)) = .recv s j := by decide
theorem role_credit : roleOf (.reg kSem) = .credit := by decide
theorem role_bar : roleOf (.reg bSem) = .bar := by decide

abbrev copyCell (c : Dev nD) (a : Fin 2) : GSem nD τ sig := ((c : Thread nD τ), .dma (xSem a))
abbrev sentCell (c : Dev nD) (s : Fin 2) (j : Fin 4) : GSem nD τ sig := ((c : Thread nD τ), .dma (sSem s j))
abbrev recvCell (c : Dev nD) (s : Fin 2) (j : Fin 4) : GSem nD τ sig := ((c : Thread nD τ), .dma (rSem s j))
abbrev creditCell (c : Dev nD) : GSem nD τ sig := ((c : Thread nD τ), .reg kSem)
abbrev barCell (c : Dev nD) : GSem nD τ sig := ((c : Thread nD τ), .reg bSem)

/-- What one head's copy, and what one chunk's, counts on its semaphore. -/
def NX : ℕ := (xDst 0 0).view.dmaCredit
def NC : ℕ := (rChunk 0 0).view.dmaCredit
theorem NX_pos : 0 < NX := View.dmaCredit_pos _ (by decide)
theorem NC_pos : 0 < NC := View.dmaCredit_pos _ (by decide)

/-! ## Holding a part of an array -/

/-- The part of an array that a view names, reading as `x`. -/
def holds (c : Dev nD) {sp : Space} {s : Shape} {e : EltTy} (v : View sig .tc sp s e) (x : Vec F s e) : sProp 𝕄 :=
  iprop(∃ f : Buf (Elt F) (v.loc (c : Thread nD τ)), ⌜v.read (Elt F) f = x⌝ ∗ v.loc (c : Thread nD τ) ↦[v.set]{fullShare} f)

/-- The part of an array that a view names, at some contents. -/
abbrev anyOf (c : Dev nD) {sp : Space} {s : Shape} {e : EltTy} (v : View sig .tc sp s e) : sProp 𝕄 :=
  Release.slot (v.loc (c : Thread nD τ)) v.set

instance holds_storable (c : Dev nD) {sp : Space} {s : Shape} {e : EltTy} (v : View sig .tc sp s e) (x : Vec F s e) :
    BI.Storable (upEmb : UEmb _ 𝕄) (holds c v x) := by unfold holds; infer_instance

theorem holds_any (c : Dev nD) {sp : Space} {s : Shape} {e : EltTy} (v : View sig .tc sp s e) (x : Vec F s e) :
    (holds c v x : sProp 𝕄) ⊢ anyOf c v := by
  unfold holds anyOf Release.slot
  iintro ⟨%f, -, Hf⟩
  iexists f; iexact Hf

/-! ## The payloads -/

section Sched

variable (X : Dev nD → Vec F S4x1024x16x128 .f32) (W : Dev nD → Vec F S2048x4096 .bf16)

/-- Head `h` of a half of batch `b` of the input. -/
def srcAt (c : Dev nD) (b : Fin 4) (a : Fin 2) (h : Fin 16) : sProp 𝕄 :=
  (xSrc c b a h).view.loc (c : Thread nD τ) ↦[(xSrc c b a h).view.set]{fullShare} X c
/-- Head `h` of a half, holding batch `b`. -/
def tileAt (c : Dev nD) (b : Fin 4) (a : Fin 2) (h : Fin 16) : sProp 𝕄 :=
  (xDst a h).view.loc (c : Thread nD τ) ↦[(xDst a h).view.set]{fullShare} tileV X c b
/-- The head's copy has ended. -/
def copied (c : Dev nD) (b : Fin 4) (a : Fin 2) (h : Fin 16) : sProp 𝕄 := iprop(tileAt X c b a h ∗ srcAt X c b a h)

/-- Chunk `j` of slot `s` of the peer may be written for the round `n`. -/
def leave1 (c : Dev nD) (s : Fin 2) (n : ℕ) (j : Fin 4) : sProp 𝕄 :=
  iprop(Release.released ES (c, s, j) (n + 1) ∗ reached ER (recvCell c s j) n)
/-- All chunks of slot `s` of device `c` may be written for the round `n`. -/
def leave (c : Dev nD) (s : Fin 2) (n : ℕ) : sProp 𝕄 := bigSep Finset.univ (leave1 (F := F) c s n)

instance leave_persistent (c : Dev nD) (s : Fin 2) (n : ℕ) : BI.Persistent (leave (F := F) c s n) := by
  unfold leave leave1; infer_instance
instance leave_storable (c : Dev nD) (s : Fin 2) (n : ℕ) : BI.Storable (upEmb : UEmb _ 𝕄) (leave (F := F) c s n) := by
  unfold leave leave1; infer_instance

/-- What the peer's barrier signal hands over. -/
def barPay (c : Dev nD) : sProp 𝕄 :=
  iprop((leave (F := F) (peer c) 0 0 ∗ leave (F := F) (peer c) 1 0) ∗ reached ER (creditCell (peer c)) 0)
/-- What the peer's credits hand over: with the first, the first slot; with the second, both. -/
def creditPay (c : Dev nD) (d : Fin 16) : sProp 𝕄 :=
  if d = 0 then leave (F := F) (peer c) 0 1 else iprop(leave (F := F) (peer c) 0 1 ∗ leave (F := F) (peer c) 1 1)

instance barPay_persistent (c : Dev nD) : BI.Persistent (barPay (F := F) c) := by unfold barPay; infer_instance
instance barPay_storable (c : Dev nD) : BI.Storable (upEmb : UEmb _ 𝕄) (barPay (F := F) c) := by unfold barPay; infer_instance
instance creditPay_persistent (c : Dev nD) (d : Fin 16) : BI.Persistent (creditPay (F := F) c d) := by
  unfold creditPay; split <;> infer_instance
instance creditPay_storable (c : Dev nD) (d : Fin 16) : BI.Storable (upEmb : UEmb _ 𝕄) (creditPay (F := F) c d) := by
  unfold creditPay; split <;> infer_instance

/-- What a payment to a semaphore hands over. -/
def payOf (c : Dev nD) (r : ℕ) (d : Fin 16) : Role → sProp 𝕄
  | .copy a => copied X c (bat r) a d
  | .sent s j => anyOf c (sA.access (chunkR s j))
  | .recv s j => holds c (rA.access (chunkR s j)) (chunkV X W (peer c) (batch s r) 0 j)
  | .credit => creditPay c d
  | .bar => barPay c
  | .other => iprop(emp)

instance payOf_storable (c : Dev nD) (r : ℕ) (d : Fin 16) (k : Role) : BI.Storable (upEmb : UEmb _ 𝕄) (payOf X W c r d k) := by
  cases k <;> unfold payOf <;> first | infer_instance | (unfold copied tileAt srcAt; infer_instance) | (unfold anyOf; infer_instance)

/-- The payments due to a semaphore in a round. -/
def dutiesOf (r : ℕ) : Role → Finset (Fin 16)
  | .copy _ => if r < 4 then Finset.univ else ∅
  | .sent _ _ => if r < 2 then {0} else ∅
  | .recv _ _ => if r < 2 then {0} else ∅
  | .credit => if r < 1 then {0, 1} else ∅
  | .bar => if r < 1 then {0} else ∅
  | .other => ∅

/-- What each payment counts. -/
def amountOf' : Role → ℕ
  | .copy _ => NX
  | .sent _ _ => NC
  | .recv _ _ => NC
  | _ => 1

/-- The rounds of every semaphore cell. -/
def sched : Rounds.Schedule (GSem nD τ sig) (Fin 16) 𝕄 where
  duties g r := dutiesOf r (roleOf g.2)
  unitless _ := False
  amount g _ _ := amountOf' (roleOf g.2)
  payload g r d := payOf X W g.1.1 r d (roleOf g.2)
  amount_pos g _ _ _ := by
    cases roleOf g.2 <;> first | exact NX_pos | exact NC_pos | exact Nat.one_pos

instance sched_storable (g : GSem nD τ sig) (r : ℕ) (d : Fin 16) :
    BI.Storable (upEmb : UEmb _ 𝕄) ((sched X W).payload g r d) := payOf_storable X W _ _ _ _

section Facts

variable (c : Dev nD)

theorem duties_copy (a : Fin 2) (b : Fin 4) : (sched X W).duties (copyCell c a) b.val = Finset.univ := by
  dsimp only [sched]; rw [role_copy]; exact if_pos b.isLt
theorem duties_sent (s : Fin 2) (j : Fin 4) (r : Fin 2) : (sched X W).duties (sentCell c s j) r.val = {0} := by
  dsimp only [sched]; rw [role_sent]; exact if_pos r.isLt
theorem duties_recv (s : Fin 2) (j : Fin 4) (r : Fin 2) : (sched X W).duties (recvCell c s j) r.val = {0} := by
  dsimp only [sched]; rw [role_recv]; exact if_pos r.isLt
theorem duties_credit : (sched X W).duties (creditCell c) 0 = {0, 1} := by
  dsimp only [sched]; rw [role_credit]; rfl
theorem duties_bar : (sched X W).duties (barCell c) 0 = {0} := by
  dsimp only [sched]; rw [role_bar]; rfl

theorem later_copy (a : Fin 2) : ∀ r, 4 ≤ r → (sched X W).duties (copyCell c a) r = ∅ := fun r hr => by
  dsimp only [sched]; rw [role_copy]; exact if_neg (by omega)
theorem later_sent (s : Fin 2) (j : Fin 4) : ∀ r, 2 ≤ r → (sched X W).duties (sentCell c s j) r = ∅ := fun r hr => by
  dsimp only [sched]; rw [role_sent]; exact if_neg (by omega)
theorem later_recv (s : Fin 2) (j : Fin 4) : ∀ r, 2 ≤ r → (sched X W).duties (recvCell c s j) r = ∅ := fun r hr => by
  dsimp only [sched]; rw [role_recv]; exact if_neg (by omega)
theorem later_credit : ∀ r, 1 ≤ r → (sched X W).duties (creditCell c) r = ∅ := fun r hr => by
  dsimp only [sched]; rw [role_credit]; exact if_neg (by omega)

theorem amount_copy (a : Fin 2) (r : ℕ) (d : Fin 16) : (sched X W).amount (copyCell c a) r d = NX := by
  dsimp only [sched]; rw [role_copy]; rfl
theorem amount_sent (s : Fin 2) (j : Fin 4) (r : ℕ) (d : Fin 16) : (sched X W).amount (sentCell c s j) r d = NC := by
  dsimp only [sched]; rw [role_sent]; rfl
theorem amount_recv (s : Fin 2) (j : Fin 4) (r : ℕ) (d : Fin 16) : (sched X W).amount (recvCell c s j) r d = NC := by
  dsimp only [sched]; rw [role_recv]; rfl
theorem amount_credit (r : ℕ) (d : Fin 16) : (sched X W).amount (creditCell c) r d = 1 := by
  dsimp only [sched]; rw [role_credit]; rfl
theorem amount_bar (r : ℕ) (d : Fin 16) : (sched X W).amount (barCell c) r d = 1 := by
  dsimp only [sched]; rw [role_bar]; rfl

theorem expect_copy (a : Fin 2) (b : Fin 4) : (sched X W).expect (copyCell c a) b.val = 16 * NX := by
  unfold Schedule.expect Schedule.amountOf
  rw [duties_copy, Finset.sum_congr rfl fun d _ => amount_copy X W c a b.val d]; simp
theorem expect_sent (s : Fin 2) (j : Fin 4) (r : Fin 2) : (sched X W).expect (sentCell c s j) r.val = NC := by
  unfold Schedule.expect Schedule.amountOf; rw [duties_sent, Finset.sum_singleton, amount_sent]
theorem expect_recv (s : Fin 2) (j : Fin 4) (r : Fin 2) : (sched X W).expect (recvCell c s j) r.val = NC := by
  unfold Schedule.expect Schedule.amountOf; rw [duties_recv, Finset.sum_singleton, amount_recv]
theorem expect_credit : (sched X W).expect (creditCell c) 0 = 2 := by
  unfold Schedule.expect Schedule.amountOf
  rw [duties_credit, Finset.sum_congr rfl fun d _ => amount_credit X W c 0 d]; rfl
theorem expect_bar : (sched X W).expect (barCell c) 0 = 1 := by
  unfold Schedule.expect Schedule.amountOf; rw [duties_bar, Finset.sum_singleton, amount_bar]

theorem payload_copy (a : Fin 2) (b : Fin 4) (h : Fin 16) : (sched X W).payload (copyCell c a) b.val h = copied X c b a h := by
  dsimp only [sched]; rw [role_copy]; dsimp only [payOf]; rw [bat_val]
theorem payload_sent (s : Fin 2) (j : Fin 4) (r : ℕ) (d : Fin 16) :
    (sched X W).payload (sentCell c s j) r d = anyOf c (sA.access (chunkR s j)) := by
  dsimp only [sched]; rw [role_sent]; rfl
theorem payload_recv (b j : Fin 4) (d : Fin 16) : (sched X W).payload (recvCell c (slot b) j) (rnd b).val d
    = holds c (rA.access (chunkR (slot b) j)) (chunkV X W (peer c) b 0 j) := by
  dsimp only [sched]; rw [role_recv]; dsimp only [payOf]; rw [batch_slot]
theorem payload_credit (r : ℕ) (d : Fin 16) : (sched X W).payload (creditCell c) r d = creditPay c d := by
  dsimp only [sched]; rw [role_credit]; rfl
theorem payload_bar (r : ℕ) (d : Fin 16) : (sched X W).payload (barCell c) r d = barPay c := by
  dsimp only [sched]; rw [role_bar]; rfl

end Facts

/-! ## Levels, and what a device owes -/

/-- Only the cores of the kernel wait. -/
def L (g : GSem nD τ sig) : Finset (Fin 2) := if g.1.2 = .tc then Finset.univ else ∅

/-- The order of the waits: barrier, first chunks, first credit, second credit, last chunks. -/
def lvOf (i : Fin 2) : Role → ℕ
  | .bar => 1
  | .recv _ _ => if i = 0 then 2 else 5
  | .credit => if i = 0 then 3 else 4
  | _ => 0

/-- The level of a wait at an index of a cell. -/
def lv (g : GSem nD τ sig) (i : Fin 2) : ℕ := lvOf i (roleOf g.2)

theorem L_of_ne (g : GSem nD τ sig) (h : g.1.2 ≠ .tc) : L g = ∅ := if_neg h
theorem L_tc (c : Dev nD) (sm : SemLoc sig) : L ((c : Thread nD τ), sm) = Finset.univ := if_pos rfl

/-- Whatever is owed is owed to cells above level `n`. -/
def Above (n : ℕ) (O : CellTallies nD τ sig (Fin 2)) : Prop := ∀ g i, 0 < O g i → i ∈ L g ∧ n < lv g i

theorem Above.zero (n : ℕ) : Above n 0 := fun _ _ h => absurd h (Nat.lt_irrefl 0)

theorem Above.add {n : ℕ} {O O' : CellTallies nD τ sig (Fin 2)} (h : Above n O) (h' : Above n O') : Above n (O + O') := fun g i hp => by
  rcases Nat.eq_zero_or_pos (O g i) with h0 | h0
  · refine h' g i ?_
    have : (O + O') g i = O g i + O' g i := rfl
    omega
  · exact h g i h0

theorem Above.tally {n : ℕ} (c : Dev nD) (sm : SemLoc sig) (i : Fin 2) (k : ℕ) (h : n < lv ((c : Thread nD τ), sm) i) :
    Above n (tallyAt ((c : Thread nD τ), sm) i k) := fun g i' hp => by
  rw [tallyAt_apply] at hp
  by_cases hg : g = ((c : Thread nD τ), sm) ∧ i' = i
  · obtain ⟨rfl, rfl⟩ := hg
    exact ⟨by rw [L_tc]; exact Finset.mem_univ _, h⟩
  · rw [if_neg hg] at hp; exact absurd hp (Nat.lt_irrefl 0)

theorem Above.sum {n : ℕ} {ι : Type} (s : Finset ι) (O : ι → CellTallies nD τ sig (Fin 2)) (h : ∀ j ∈ s, Above n (O j)) :
    Above n (∑ j ∈ s, O j) := by
  classical
  induction s using Finset.induction_on with
  | empty => rw [Finset.sum_empty]; exact Above.zero n
  | insert a s ha ih =>
    rw [Finset.sum_insert ha]
    exact (h a (Finset.mem_insert_self a s)).add (ih fun j hj => h j (Finset.mem_insert_of_mem hj))

theorem Above.mono {n n' : ℕ} {O : CellTallies nD τ sig (Fin 2)} (h : Above n O) (hn : n' ≤ n) : Above n' O :=
  fun g i hp => ⟨(h g i hp).1, lt_of_le_of_lt hn (h g i hp).2⟩

/-- A wait is allowed below everything owed. -/
theorem Above.mayWait {O : CellTallies nD τ sig (Fin 2)} (c : Dev nD) (sm : SemLoc sig) (i : Fin 2)
    (h : Above (lv ((c : Thread nD τ), sm) i) O) : (levAts L lv : sProp 𝕄) ⊢ MayWait (c : Thread nD τ) sm i O :=
  MayOwe.of_cut (L := L) (lev := lv) (lv ((c : Thread nD τ), sm) i)
    (fun p hp => by rw [Finset.mem_singleton.mp hp, L_tc]; exact Finset.mem_univ _)
    (fun g u hg => (h g u hg).1)
    (fun p hp => by rw [Finset.mem_singleton.mp hp])
    (fun g u hg => (h g u hg).2)

theorem lv_copy (c : Dev nD) (a : Fin 2) (i : Fin 2) : lv (copyCell c a) i = 0 := by unfold lv; rw [role_copy]; rfl
theorem lv_sent (c : Dev nD) (s : Fin 2) (j : Fin 4) (i : Fin 2) : lv (sentCell c s j) i = 0 := by unfold lv; rw [role_sent]; rfl
theorem lv_recv (c : Dev nD) (s : Fin 2) (j : Fin 4) (i : Fin 2) : lv (recvCell c s j) i = if i = 0 then 2 else 5 := by
  unfold lv; rw [role_recv]; rfl
theorem lv_credit (c : Dev nD) (i : Fin 2) : lv (creditCell c) i = if i = 0 then 3 else 4 := by unfold lv; rw [role_credit]; rfl
theorem lv_bar (c : Dev nD) (i : Fin 2) : lv (barCell c) i = 1 := by unfold lv; rw [role_bar]; rfl

/-- The peer's chunk `j` of batch `b`, owed. -/
def oweChunk (c : Dev nD) (b j : Fin 4) : CellTallies nD τ sig (Fin 2) := tallyAt (recvCell (peer c) (slot b) j) (rnd b) NC
/-- The peer's chunks of batch `b` from the `i`-th on, owed. -/
def oweFrom (c : Dev nD) (b : Fin 4) (i : ℕ) : CellTallies nD τ sig (Fin 2) :=
  ∑ j : Fin 4, if i ≤ j.val then oweChunk c b j else 0
/-- The peer's credit, owed. -/
def oweCredit (c : Dev nD) (s : Fin 2) : CellTallies nD τ sig (Fin 2) := tallyAt (creditCell (peer c)) s 1
/-- The peer's barrier signal, owed. -/
def oweBar (c : Dev nD) : CellTallies nD τ sig (Fin 2) := tallyAt (barCell (peer c)) 0 1

theorem oweFrom_step (c : Dev nD) (b j : Fin 4) : oweFrom c b j.val = oweFrom c b (j.val + 1) + oweChunk c b j := by
  unfold oweFrom
  fin_cases j <;> simp [Fin.sum_univ_four, add_comm, add_left_comm]
theorem oweFrom_end (c : Dev nD) (b : Fin 4) : oweFrom c b 4 = 0 := by
  unfold oweFrom
  exact Finset.sum_eq_zero fun j _ => if_neg (by omega)

/-- What is owed after batch 2, after the second credit is due, and so on back to the launch. -/
def owe3 (c : Dev nD) : CellTallies nD τ sig (Fin 2) := oweFrom c 3 0
def oweK1 (c : Dev nD) : CellTallies nD τ sig (Fin 2) := owe3 c + oweCredit c 1
def owe2 (c : Dev nD) : CellTallies nD τ sig (Fin 2) := oweK1 c + oweFrom c 2 0
def oweK0 (c : Dev nD) : CellTallies nD τ sig (Fin 2) := owe2 c + oweCredit c 0
def owe1 (c : Dev nD) : CellTallies nD τ sig (Fin 2) := oweK0 c + oweFrom c 1 0
def owe0 (c : Dev nD) : CellTallies nD τ sig (Fin 2) := owe1 c + oweFrom c 0 0
def oweAll (c : Dev nD) : CellTallies nD τ sig (Fin 2) := owe0 c + oweBar c

theorem above_from {n : ℕ} (c : Dev nD) (b : Fin 4) (i : ℕ) (h : n < if rnd b = 0 then 2 else 5) : Above n (oweFrom c b i) := by
  unfold oweFrom
  refine Above.sum _ _ fun j _ => ?_
  split
  · exact Above.tally _ _ _ _ (by rw [lv_recv]; exact h)
  · exact Above.zero n
theorem above_credit {n : ℕ} (c : Dev nD) (s : Fin 2) (h : n < if s = 0 then 3 else 4) : Above n (oweCredit c s) :=
  Above.tally _ _ _ _ (by rw [lv_credit]; exact h)

theorem above_owe3 (c : Dev nD) : Above 4 (owe3 c) := above_from c 3 0 (by decide)
theorem above_oweK1 (c : Dev nD) : Above 3 (oweK1 c) := ((above_owe3 c).mono (by decide)).add (above_credit c 1 (by decide))
theorem above_owe2 (c : Dev nD) : Above 3 (owe2 c) := (above_oweK1 c).add (above_from c 2 0 (by decide))
theorem above_oweK0 (c : Dev nD) : Above 2 (oweK0 c) := ((above_owe2 c).mono (by decide)).add (above_credit c 0 (by decide))
theorem above_owe1 (c : Dev nD) : Above 1 (owe1 c) := ((above_oweK0 c).mono (by decide)).add (above_from c 1 0 (by decide))
theorem above_owe0 (c : Dev nD) : Above 1 (owe0 c) := (above_owe1 c).add (above_from c 0 0 (by decide))

end Sched

end Cert.KernelIdeal.OProj

end
-- ==== Proof.Steps.lean ====
/- The kernel's operations, one triple each: a copy started and waited for, a load, a store, a chunk sent, waited for,
   received, a credit and the barrier; and the rule for a loop whose steps each use their own share of what is held. -/
module

public import proofs.«01_k».proof.Proof.Sched

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

abbrev 𝒱₀ : Variants := Variants.none

/-- The weakest precondition of a program on device `c`. -/
abbrev WP (c : Dev nD) {α : Type} (p : Code F α) (Q : α → sProp (MT nD τ sig (Fin 2) (Elt F) ℕ UU ℕ)) :
    sProp (MT nD τ sig (Fin 2) (Elt F) ℕ UU ℕ) :=
  wp frame (wpE (defs₀ (F := F)) 𝒱₀ (c : Thread nD τ) none) Set.univ p Q

/-! ## Programs in sequence -/

theorem WP_seq (c : Dev nD) {α β : Type} {p : Code F α} {k : α → Code F β} {P : sProp 𝕄} {Q : α → sProp 𝕄} {R : β → sProp 𝕄}
    (h : P ⊢ WP c p Q) : iprop(P ∗ (∀ a, Q a -∗ WP c (k a) R)) ⊢ WP c (p >>= k) R := by
  show _ ⊢ wp frame _ _ _ _
  rw [wp_bind]
  iintro ⟨HP, Hk⟩
  ihave Hw := h $$ HP
  iapply wp_wand $$ Hw Hk

theorem WP_done (c : Dev nD) {α : Type} (a : α) (Q : α → sProp 𝕄) : Q a ⊢ WP c (pure a : Code F α) Q := by
  show _ ⊢ wp frame _ _ (Prog.ret a) _
  rw [wp_ret]
  iintro H; imodintro; iexact H

theorem sep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]; rfl

theorem sep_elim_at {ι : Type} [DecidableEq ι] {s : Finset ι} (Φ : ι → sProp 𝕄) {i : ι} (h : i ∈ s) : bigSep s Φ ⊢ Φ i := bigSep_elim h

theorem sep_mono_at {ι : Type} {s : Finset ι} {Φ Ψ : ι → sProp 𝕄} (h : ∀ i ∈ s, Φ i ⊢ Ψ i) : bigSep s Φ ⊢ bigSep s Ψ := bigSep_mono h

theorem sep_rest {ι : Type} [DecidableEq ι] {s t : Finset ι} (hst : s ⊆ t) (Φ : ι → sProp 𝕄) :
    iprop(bigSep s Φ ∗ bigSep (t \ s) Φ) ⊢ bigSep t Φ :=
  Entails.of_eq (by rw [← Finset.union_sdiff_of_subset hst, bigSep_union Finset.disjoint_sdiff, Finset.union_sdiff_cancel_left Finset.disjoint_sdiff]; rfl)

/-- A loop: step `i` turns `P i` and the state into `Q i` and the next state. -/
theorem WP_rep (c : Dev nD) : ∀ (n : ℕ) (f : Fin n → Code F PUnit) (P Q : Fin n → sProp 𝕄) (S : ℕ → sProp 𝕄)
    (_ : ∀ i : Fin n, iprop(P i ∗ S i.val) ⊢ WP c (f i) (fun _ => iprop(Q i ∗ S (i.val + 1)))),
    iprop(bigSep Finset.univ P ∗ S 0) ⊢ WP c (rep n f) (fun _ => iprop(bigSep Finset.univ Q ∗ S n))
  | 0, f, P, Q, S, _ => by
    iintro ⟨-, HS⟩
    iapply (WP_done c PUnit.unit _)
    isplitr
    · rw [Finset.univ_eq_empty, bigSep_empty]; iempintro
    iexact HS
  | n + 1, f, P, Q, S, h => by
    have h0 : iprop(P 0 ∗ S 0) ⊢ WP c (f 0) (fun _ => iprop(Q 0 ∗ S 1)) := h 0
    rw [sep_fin_succ P]
    iintro ⟨⟨HP, HPs⟩, HS⟩
    iapply (WP_seq c h0)
    isplitl [HP HS]
    · isplitl [HP]; · iexact HP
      iexact HS
    iintro %a ⟨HQ, HS⟩
    ihave Hw := (WP_rep c n (fun i => f i.succ) (fun i => P i.succ) (fun i => Q i.succ) (fun i => S (i + 1)) (fun i => h i.succ)) $$ [HPs HS]
    · isplitl [HPs]; · iexact HPs
      iexact HS
    iapply wp_wand $$ Hw
    iintro %a ⟨HQs, HS⟩
    isplitr [HS]
    · rw [sep_fin_succ Q]
      isplitl [HQ]; · iexact HQ
      iexact HQs
    iexact HS

/-! ## Loads and stores -/

theorem load_at (c : Dev nD) {cs : CoreSpace} {s : Shape} {e : EltTy} (m : Memref sig .tc cs s e) (r : Rect s)
    (hl : m.view.LoadsAt r.toLoadRect) (S : Finset (Idx ((m.access r).loc (c : Thread nD τ)))) (hS : (m.access r).set ⊆ S)
    (f : Buf (Elt F) ((m.access r).loc (c : Thread nD τ))) :
    ((m.access r).loc (c : Thread nD τ) ↦[S]{fullShare} f : sProp 𝕄)
      ⊢ WP c (Prog.lift (.load m r.toLoadRect hl)) (fun y => iprop(⌜y = (m.access r).read (Elt F) f⌝ ∗ (m.access r).loc (c : Thread nD τ) ↦[S]{fullShare} f)) := by
  iintro Hf
  iapply (wp_load_rect 𝒱₀ (c : Thread nD τ) none Set.univ (m := m) (r := r) (hl := hl) hS) $$ Hf
  iintro Hf
  rw [wp_ret]; imodintro
  isplitr; · ipureintro; rfl
  iexact Hf

theorem load_holds (c : Dev nD) {cs : CoreSpace} {s : Shape} {e : EltTy} (m : Memref sig .tc cs s e) (r : Rect s)
    (hl : m.view.LoadsAt r.toLoadRect) (x : Vec F r.shape e) :
    (holds c (m.access r) x : sProp 𝕄)
      ⊢ WP c (Prog.lift (.load m r.toLoadRect hl)) (fun y => iprop(⌜y = x⌝ ∗ holds c (m.access r) x)) := by
  unfold holds
  iintro ⟨%f, %hf, Hf⟩
  ihave Hw := (load_at c m r hl _ (Finset.Subset.refl _) f) $$ Hf
  iapply wp_wand $$ Hw
  iintro %y ⟨%hy, Hf⟩
  isplitr; · ipureintro; exact hy.trans hf
  iexists f
  isplitr; · ipureintro; exact hf
  iexact Hf

theorem load_any (c : Dev nD) {cs : CoreSpace} {s : Shape} {e : EltTy} (m : Memref sig .tc cs s e) (r : Rect s)
    (hl : m.view.LoadsAt r.toLoadRect) :
    (anyOf c (m.access r) : sProp 𝕄) ⊢ WP c (Prog.lift (.load m r.toLoadRect hl)) (fun _ => anyOf c (m.access r)) := by
  unfold anyOf Release.slot
  iintro ⟨%f, Hf⟩
  ihave Hw := (load_at c m r hl _ (Finset.Subset.refl _) f) $$ Hf
  iapply wp_wand $$ Hw
  iintro %y ⟨-, Hf⟩
  iexists f; iexact Hf

theorem store_any (c : Dev nD) {cs : CoreSpace} {s : Shape} {e : EltTy} (m : Memref sig .tc cs s e) (r : Rect s)
    (w : Vec F r.shape e) (hx : (m.access r).Stores Finset.univ) (hm : (Finset.univ : Finset r.shape.Idx) = Finset.univ ∨ ∀ a, r.stride a = 1) :
    (anyOf c (m.access r) : sProp 𝕄) ⊢ WP c (Prog.lift (.store m r w Finset.univ hx hm)) (fun _ => holds c (m.access r) w) := by
  unfold anyOf Release.slot holds
  iintro ⟨%f, Hf⟩
  iapply (wp_store 𝒱₀ (c : Thread nD τ) none Set.univ (m := m) (r := r) (w := w) (Mk := Finset.univ) (hx := hx) (hm := hm)
    (S := (m.access r).set) (Finset.Subset.refl _)) $$ Hf
  iintro Hf
  rw [wp_ret]; imodintro
  iexists _
  isplitr; swap; · iexact Hf
  ipureintro; exact View.read_write_univ _ _

/-! ## What every device knows -/

section Know

variable (X : Dev nD → Vec F S4x1024x16x128 .f32) (W : Dev nD → Vec F S2048x4096 .bf16)

/-- The kernel's own semaphores. -/
abbrev Own : Type := Fin 2 ⊕ (Fin 2 × Fin 4) ⊕ (Fin 2 × Fin 4) ⊕ Unit

abbrev ownSem : Own → SemLoc sig
  | .inl a => .dma (xSem a)
  | .inr (.inl p) => .dma (sSem p.1 p.2)
  | .inr (.inr (.inl p)) => .dma (rSem p.1 p.2)
  | .inr (.inr (.inr ())) => .reg kSem

theorem ownSem_inj : Function.Injective ownSem := by decide

def barEmb : Dev nD ↪ GSem nD τ sig := ⟨barCell, fun c c' h => congrArg (fun g : GSem nD τ sig => g.1.1) h⟩
def ownEmb : Dev nD × Own ↪ GSem nD τ sig :=
  ⟨fun x => ((x.1 : Thread nD τ), ownSem x.2), fun x y h => Prod.ext (congrArg (fun g : GSem nD τ sig => g.1.1) h)
    (ownSem_inj (congrArg (fun g : GSem nD τ sig => g.2) h))⟩

/-- The barrier's cells, and the cells of the kernel's own semaphores. -/
def barCells : Finset (GSem nD τ sig) := Finset.univ.map barEmb
def ownCells : Finset (GSem nD τ sig) := Finset.univ.map ownEmb

theorem own_mem (c : Dev nD) (k : Own) : ((c : Thread nD τ), ownSem k) ∈ barCells ∪ ownCells :=
  Finset.mem_union_right _ (Finset.mem_map_of_mem ownEmb (Finset.mem_univ (c, k)))
theorem bar_mem (c : Dev nD) : barCell c ∈ barCells ∪ ownCells :=
  Finset.mem_union_left _ (Finset.mem_map_of_mem barEmb (Finset.mem_univ c))

/-- The slot of the receive buffer. -/
def slotRes (k : Key) : sProp 𝕄 := anyOf k.1 (rA.access (chunkR k.2.1 k.2.2))

instance slotRes_storable (k : Key) : BI.Storable (upEmb : UEmb _ 𝕄) (slotRes (F := F) k) := by
  unfold slotRes anyOf; infer_instance

/-- The invariants of all cells and slots, and the levels. -/
def Know (κ : GSem nD τ sig → ℕ) (σ : Key → ℕ) : sProp 𝕄 :=
  iprop((bigSep (barCells ∪ ownCells) fun g => cellInv ER (sched X W) (κ g) g)
    ∗ (bigSep Finset.univ fun k : Key => Release.slotInv ES (σ k) k (slotRes k)) ∗ levAts L lv)

variable (κ : GSem nD τ sig → ℕ) (σ : Key → ℕ)

instance know_persistent : BI.Persistent (Know X W κ σ) := by unfold Know; infer_instance

theorem know_own (c : Dev nD) (k : Own) : Know X W κ σ ⊢ cellInv ER (sched X W) (κ ((c : Thread nD τ), ownSem k)) ((c : Thread nD τ), ownSem k) := by
  unfold Know
  iintro ⟨H, -, -⟩
  iapply (sep_elim_at (fun g => cellInv ER (sched X W) (κ g) g) (own_mem c k)) $$ H

theorem know_bar (c : Dev nD) : Know X W κ σ ⊢ cellInv ER (sched X W) (κ (barCell c)) (barCell c) := by
  unfold Know
  iintro ⟨H, -, -⟩
  iapply (sep_elim_at (fun g => cellInv ER (sched X W) (κ g) g) (bar_mem c)) $$ H

theorem know_slot (k : Key) : Know X W κ σ ⊢ Release.slotInv ES (σ k) k (slotRes k) := by
  unfold Know
  iintro ⟨-, H, -⟩
  iapply (sep_elim_at (fun k : Key => Release.slotInv ES (σ k) k (slotRes k)) (Finset.mem_univ k)) $$ H

theorem know_levs : Know X W κ σ ⊢ levAts L lv := by
  unfold Know
  iintro ⟨-, -, H⟩
  iexact H

theorem know_mayWait (c : Dev nD) (sm : SemLoc sig) (i : Fin 2) {O : CellTallies nD τ sig (Fin 2)}
    (h : Above (lv ((c : Thread nD τ), sm) i) O) : Know X W κ σ ⊢ MayWait (c : Thread nD τ) sm i O :=
  BIBase.Entails.trans (know_levs X W κ σ) (Above.mayWait (F := F) c sm i h)

/-- A device owes `O`. -/
def owing (c : Dev nD) (O : CellTallies nD τ sig (Fin 2)) : sProp 𝕄 := iprop(∃ V, owes (c : Thread nD τ) O V)

end Know

end Cert.KernelIdeal.OProj

end
-- ==== Proof.Parts.lean ====
/- The arrays cut into the parts that the kernel uses: the input by batch, half and head, the copied rows by half and
   head, the communication buffers by slot and chunk, the result by batch and chunk. -/
module

public import proofs.«01_k».proof.Proof.Sched

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

/-! ## Membership -/

/-- Head `h` of a half of batch `b`, in the input. -/
abbrev srcR (c : Dev nD) (b : Fin 4) (a : Fin 2) (h : Fin 16) : Rect S4x1024x16x128 :=
  Rect.unit (s := S4x1024x16x128) (offTab c b a h) S1x512x1x128.size (offTab_inb c b a h)
/-- Head `h` of a half, in the copied rows. -/
abbrev tileR (a : Fin 2) (h : Fin 16) : Rect S2x512x2048 :=
  Rect.unit (s := S2x512x2048) ![a.val, 0, 128 * h.val] S1x512x128.size (tile_inb a h)

theorem src_set (c : Dev nD) (b : Fin 4) (a : Fin 2) (h : Fin 16) : (xSrc c b a h).view.set = (srcR c b a h).set :=
  (View.set_reshape _ _).trans (View.set_slice_whole _ _)
theorem tile_set (a : Fin 2) (h : Fin 16) : (xDst a h).view.set = (tileR a h).set :=
  (View.set_reshape _ _).trans (View.set_slice_whole _ _)
theorem half_set (a : Fin 2) : (tA.access (halfR a)).set = (halfR a).set := View.set_slice_whole _ _

theorem mem_src (c : Dev nD) (b : Fin 4) (a : Fin 2) (h : Fin 16) (i : S4x1024x16x128.Idx) :
    i ∈ (srcR c b a h).set ↔ (i 0).val = b.val ∧ (row0 c a ≤ (i 1).val ∧ (i 1).val < row0 c a + 512) ∧ (i 2).val = h.val := by
  refine Rect.mem_set_unit.trans ?_
  have h3 : (i 3).val < 128 := (i 3).isLt
  rw [offTab_eq]
  constructor
  · intro H
    have H0 := H 0; have H1 := H 1; have H2 := H 2
    simp [S1x512x1x128] at H0 H1 H2
    unfold row0
    omega
  · rintro ⟨H0, H1, H2⟩ k
    unfold row0 at H1
    fin_cases k <;> simp [S1x512x1x128] <;> omega

theorem mem_tile (a : Fin 2) (h : Fin 16) (i : S2x512x2048.Idx) :
    i ∈ (tileR a h).set ↔ (i 0).val = a.val ∧ 128 * h.val ≤ (i 2).val ∧ (i 2).val < 128 * h.val + 128 := by
  refine Rect.mem_set_unit.trans ?_
  have h1 : (i 1).val < 512 := (i 1).isLt
  constructor
  · intro H
    have H0 := H 0; have H2 := H 2
    simp [S1x512x128] at H0 H2
    omega
  · rintro ⟨H0, H1⟩ k
    fin_cases k <;> simp [S1x512x128] <;> omega

theorem mem_half (a : Fin 2) (i : S2x512x2048.Idx) : i ∈ (halfR a).set ↔ (i 0).val = a.val := by
  refine Rect.mem_set_unit.trans ?_
  have h1 : (i 1).val < 512 := (i 1).isLt
  have h2 : (i 2).val < 2048 := (i 2).isLt
  constructor
  · intro H
    have H0 := H 0
    simp [S1x512x2048] at H0
    omega
  · intro H0 k
    fin_cases k <;> simp [S1x512x2048] <;> omega

theorem mem_chunkR (s : Fin 2) (j : Fin 4) (i : S2x512x4096.Idx) :
    i ∈ (chunkR s j).set ↔ (i 0).val = s.val ∧ 1024 * j.val ≤ (i 2).val ∧ (i 2).val < 1024 * j.val + 1024 := by
  refine Rect.mem_set_unit.trans ?_
  have h1 : (i 1).val < 512 := (i 1).isLt
  constructor
  · intro H
    have H0 := H 0; have H2 := H 2
    simp [S1x512x1024] at H0 H2
    omega
  · rintro ⟨H0, H1⟩ k
    fin_cases k <;> simp [S1x512x1024] <;> omega

theorem mem_outR (b j : Fin 4) (i : S4x512x4096.Idx) :
    i ∈ (outR b j).set ↔ (i 0).val = b.val ∧ 1024 * j.val ≤ (i 2).val ∧ (i 2).val < 1024 * j.val + 1024 := by
  refine Rect.mem_set_unit.trans ?_
  have h1 : (i 1).val < 512 := (i 1).isLt
  constructor
  · intro H
    have H0 := H 0; have H2 := H 2
    simp [S1x512x1024] at H0 H2
    omega
  · rintro ⟨H0, H1⟩ k
    fin_cases k <;> simp [S1x512x1024] <;> omega

theorem sent_set (s : Fin 2) (j : Fin 4) : (sA.access (chunkR s j)).set = (chunkR s j).set := View.set_slice_whole _ _
theorem recv_set (s : Fin 2) (j : Fin 4) : (rA.access (chunkR s j)).set = (chunkR s j).set := View.set_slice_whole _ _
theorem out_set (b j : Fin 4) : (oA.access (outR b j)).set = (outR b j).set := View.set_slice_whole _ _

/-! ## The parts, disjoint and together everything -/

theorem tile_disj (a : Fin 2) (h h' : Fin 16) (hne : h ≠ h') : Disjoint (tileR a h).set (tileR a h').set :=
  Finset.disjoint_left.mpr fun i hi hi' => by
    have h1 := (mem_tile a h i).mp hi; have h2 := (mem_tile a h' i).mp hi'
    exact hne (Fin.ext (by omega))

theorem tile_union (a : Fin 2) : (Finset.univ.biUnion fun h : Fin 16 => (tileR a h).set) = (halfR a).set := by
  ext i
  rw [Finset.mem_biUnion]
  have h2 : (i 2).val < 2048 := (i 2).isLt
  constructor
  · rintro ⟨h, -, hi⟩
    exact (mem_half a i).mpr ((mem_tile a h i).mp hi).1
  · intro hi
    refine ⟨⟨(i 2).val / 128, by omega⟩, Finset.mem_univ _, (mem_tile a _ i).mpr ⟨(mem_half a i).mp hi, ?_⟩⟩
    simp only
    omega

theorem half_disj (a a' : Fin 2) (hne : a ≠ a') : Disjoint (halfR a).set (halfR a').set :=
  Finset.disjoint_left.mpr fun i hi hi' => by
    have h1 := (mem_half a i).mp hi; have h2 := (mem_half a' i).mp hi'
    exact hne (Fin.ext (by omega))

theorem half_union : (Finset.univ.biUnion fun a : Fin 2 => (halfR a).set) = Finset.univ := by
  ext i
  rw [Finset.mem_biUnion]
  exact ⟨fun _ => Finset.mem_univ _, fun _ => ⟨i 0, Finset.mem_univ _, (mem_half _ i).mpr rfl⟩⟩

theorem chunk_disj (p p' : Fin 2 × Fin 4) (hne : p ≠ p') : Disjoint (chunkR p.1 p.2).set (chunkR p'.1 p'.2).set :=
  Finset.disjoint_left.mpr fun i hi hi' => by
    have h1 := (mem_chunkR p.1 p.2 i).mp hi; have h2 := (mem_chunkR p'.1 p'.2 i).mp hi'
    exact hne (Prod.ext (Fin.ext (by omega)) (Fin.ext (by omega)))

theorem chunk_union : (Finset.univ.biUnion fun p : Fin 2 × Fin 4 => (chunkR p.1 p.2).set) = Finset.univ := by
  ext i
  rw [Finset.mem_biUnion]
  have h2 : (i 2).val < 4096 := (i 2).isLt
  refine ⟨fun _ => Finset.mem_univ _, fun _ => ⟨(i 0, ⟨(i 2).val / 1024, by omega⟩), Finset.mem_univ _, (mem_chunkR _ _ i).mpr ⟨rfl, ?_⟩⟩⟩
  simp only
  omega

theorem outR_disj (p p' : Fin 4 × Fin 4) (hne : p ≠ p') : Disjoint (outR p.1 p.2).set (outR p'.1 p'.2).set :=
  Finset.disjoint_left.mpr fun i hi hi' => by
    have h1 := (mem_outR p.1 p.2 i).mp hi; have h2 := (mem_outR p'.1 p'.2 i).mp hi'
    exact hne (Prod.ext (Fin.ext (by omega)) (Fin.ext (by omega)))

theorem outR_union : (Finset.univ.biUnion fun p : Fin 4 × Fin 4 => (outR p.1 p.2).set) = Finset.univ := by
  ext i
  rw [Finset.mem_biUnion]
  have h2 : (i 2).val < 4096 := (i 2).isLt
  refine ⟨fun _ => Finset.mem_univ _, fun _ => ⟨(i 0, ⟨(i 2).val / 1024, by omega⟩), Finset.mem_univ _, (mem_outR _ _ i).mpr ⟨rfl, ?_⟩⟩⟩
  simp only
  omega

theorem row0_cases : ∀ (c : Dev nD), (row0 c 0 = 0 ∧ row0 c 1 = 512) ∨ (row0 c 0 = 512 ∧ row0 c 1 = 0) := by decide

theorem row0_fin (a : Fin 2) : a = 0 ∨ a = 1 := by revert a; decide

theorem src_disj (c : Dev nD) (p p' : Fin 4 × Fin 2 × Fin 16) (hne : p ≠ p') :
    Disjoint (srcR c p.1 p.2.1 p.2.2).set (srcR c p'.1 p'.2.1 p'.2.2).set :=
  Finset.disjoint_left.mpr fun i hi hi' => by
    obtain ⟨b, a, h⟩ := p
    obtain ⟨b', a', h'⟩ := p'
    have h1 := (mem_src c b a h i).mp hi; have h2 := (mem_src c b' a' h' i).mp hi'
    have hb : b = b' := Fin.ext (by omega)
    have hh : h = h' := Fin.ext (by omega)
    have ha : a = a' := by
      rcases row0_cases c with hr | hr <;> rcases row0_fin a with rfl | rfl <;> rcases row0_fin a' with rfl | rfl <;>
        first | rfl | (exfalso; omega)
    exact hne (by rw [hb, hh, ha])

theorem src_union (c : Dev nD) :
    (Finset.univ.biUnion fun p : Fin 4 × Fin 2 × Fin 16 => (srcR c p.1 p.2.1 p.2.2).set) = Finset.univ := by
  ext i
  rw [Finset.mem_biUnion]
  have h1 : (i 1).val < 1024 := (i 1).isLt
  refine ⟨fun _ => Finset.mem_univ _, fun _ => ?_⟩
  have key : ∃ a : Fin 2, row0 c a ≤ (i 1).val ∧ (i 1).val < row0 c a + 512 := by
    by_cases hlt : (i 1).val < 512 <;> rcases row0_cases c with hr | hr
    · exact ⟨0, by omega⟩
    · exact ⟨1, by omega⟩
    · exact ⟨1, by omega⟩
    · exact ⟨0, by omega⟩
  obtain ⟨a, ha⟩ := key
  exact ⟨(i 0, a, i 2), Finset.mem_univ _, (mem_src c _ a _ i).mpr ⟨rfl, ha, rfl⟩⟩

/-! ## What a copy writes -/

/-- A row-major index of a tile. -/
theorem tile_index (y : S512x128.Idx) :
    Shape.reshapeEquiv (Shape.Squeezes.numel_eq squeezes_S1x512x128_S512x128) y = (ix3 u0 (y 0) (y 1) : S1x512x128.Idx) :=
  Shape.reshapeEquiv_eq_of_rowMajor _ (by
    rw [Shape.rowMajor_val_two, Shape.rowMajor_val_three]; simp [S512x128, S1x512x128, ix3])

theorem src_index (y : S512x128.Idx) :
    Shape.reshapeEquiv (Shape.Squeezes.numel_eq squeezes_S1x512x1x128_S512x128) y = (ix4 u0 (y 0) u0 (y 1) : S1x512x1x128.Idx) :=
  Shape.reshapeEquiv_eq_of_rowMajor _ (by
    rw [Shape.rowMajor_val_two, Shape.rowMajor_val_four]; simp [S512x128, S1x512x1x128, ix4])

variable (X : Dev nD → Vec F S4x1024x16x128 .f32)

/-- A head's copy leaves the head's rows. -/
theorem tile_written (c : Dev nD) (b : Fin 4) (a : Fin 2) (h : Fin 16) (fd : Vec F S2x512x2048 .f32) :
    ∀ i ∈ (xDst a h).view.set, (xDst a h).view.write (Elt F) fd ((xSrc c b a h).view.read (Elt F) (X c)) Finset.univ i = tileV X c b i := by
  intro i hi
  obtain ⟨y, -, rfl⟩ := Finset.mem_map.mp hi
  rw [View.write_emb_of_mem _ _ (Finset.mem_univ y)]
  show X c ((xSrc c b a h).view.emb y) = tileV X c b ((xDst a h).view.emb y)
  have hs : (xSrc c b a h).view.emb y = (Rect.unit (s := S4x1024x16x128) (offTab c b a h) S1x512x1x128.size (offTab_inb c b a h)).emb
      (Shape.reshapeEquiv (Shape.Squeezes.numel_eq squeezes_S1x512x1x128_S512x128) y) := rfl
  have hd : (xDst a h).view.emb y = (Rect.unit (s := S2x512x2048) ![a.val, 0, 128 * h.val] S1x512x128.size (tile_inb a h)).emb
      (Shape.reshapeEquiv (Shape.Squeezes.numel_eq squeezes_S1x512x128_S512x128) y) := rfl
  rw [hs, hd, src_index, tile_index]
  have h1 : (y 1).val < 128 := (y 1).isLt
  unfold tileV
  congr 1
  funext k
  apply Fin.ext
  rw [Rect.emb_apply]
  have ho := offTab_eq c b a h
  fin_cases k
  · simp [ho, ix4]
  · have e0 : (tileR a h).emb (ix3 u0 (y 0) (y 1) : S1x512x128.Idx) 0 = a := Fin.ext (by rw [Rect.emb_apply]; simp [ix3])
    have e1 : ((tileR a h).emb (ix3 u0 (y 0) (y 1) : S1x512x128.Idx) 1).val = (y 0).val := by rw [Rect.emb_apply]; simp [ix3]
    show offTab c b a h 1 + 1 * (y 0).val = row0 c ((tileR a h).emb (ix3 u0 (y 0) (y 1) : S1x512x128.Idx) 0) +
      ((tileR a h).emb (ix3 u0 (y 0) (y 1) : S1x512x128.Idx) 1).val
    rw [e0, e1, ho, one_mul]; rfl
  · simp [ho, ix4, ix3]; omega
  · simp [ho, ix4, ix3]; omega

end Cert.KernelIdeal.OProj

end
-- ==== Proof.Copies.lean ====
/- The copies of the heads: all of a half started, all of a half waited for. -/
module

public import proofs.«01_k».proof.Proof.Steps
public import proofs.«01_k».proof.Proof.Parts

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (X : Dev nD → Vec F S4x1024x16x128 .f32) (W : Dev nD → Vec F S2048x4096 .bf16)
variable (κ : GSem nD τ sig → ℕ) (σ : Key → ℕ) (c : Dev nD)

/-- A half's rows, holding batch `b`. -/
def halfAt (b : Fin 4) (a : Fin 2) : sProp 𝕄 :=
  (tA.access (halfR a)).loc (c : Thread nD τ) ↦[(tA.access (halfR a)).set]{fullShare} tileV X c b
/-- A half's rows, at some contents. -/
abbrev halfAny (a : Fin 2) : sProp 𝕄 := anyOf c (tA.access (halfR a))

omit [FloatOps F] in
theorem halfAt_any (b : Fin 4) (a : Fin 2) : halfAt X c b a ⊢ halfAny (F := F) c a := by
  unfold halfAt halfAny anyOf Release.slot
  iintro H; iexists _; iexact H

/-- The copied rows' buffer. -/
abbrev tLoc : Loc nD τ sig := (c : Thread nD τ).loc cc0_scratch0

theorem halfAny_eq (a : Fin 2) : (halfAny (F := F) c a) = Release.slot (tLoc c) (halfR a).set := by
  show (Release.slot (tLoc c) (tA.access (halfR a)).set : sProp 𝕄) = _
  rw [half_set]
theorem tileAny_eq (a : Fin 2) (h : Fin 16) : (anyOf (F := F) c (xDst a h).view) = Release.slot (tLoc c) (tileR a h).set := by
  show (Release.slot (tLoc c) (xDst a h).view.set : sProp 𝕄) = _
  rw [tile_set]
theorem halfAt_eq (b : Fin 4) (a : Fin 2) : halfAt X c b a = (tLoc c ↦[(halfR a).set]{fullShare} tileV X c b : sProp 𝕄) := by
  show (tLoc c ↦[(tA.access (halfR a)).set]{fullShare} tileV X c b : sProp 𝕄) = _
  rw [half_set]
theorem tileAt_eq (b : Fin 4) (a : Fin 2) (h : Fin 16) : tileAt X c b a h = (tLoc c ↦[(tileR a h).set]{fullShare} tileV X c b : sProp 𝕄) := by
  show (tLoc c ↦[(xDst a h).view.set]{fullShare} tileV X c b : sProp 𝕄) = _
  rw [tile_set]

theorem half_tiles (a : Fin 2) : (halfAny (F := F) c a) ⊢ bigSep Finset.univ fun h : Fin 16 => anyOf (F := F) c (xDst a h).view := by
  rw [halfAny_eq, bigSep_congr fun h _ => tileAny_eq c a h]
  unfold Release.slot
  iintro ⟨%f, H⟩
  ihave H' := (Entails.of_eq (Ring.pointsTo_sub_blocks (fun h : Fin 16 => (tileR a h).set) (fun h h' hne => tile_disj a h h' hne) (halfR a).set
    (tile_union a) (q := fullShare) (ℓ := tLoc c) f)) $$ H
  iapply (sep_mono_at (s := Finset.univ) (Φ := fun h : Fin 16 => (tLoc c ↦[(tileR a h).set]{fullShare} f : sProp 𝕄))
    (fun h _ => (by
      iintro H
      iexists f
      iexact H))) $$ H'

theorem tiles_half (b : Fin 4) (a : Fin 2) : bigSep Finset.univ (tileAt X c b a) ⊢ halfAt X c b a := by
  rw [halfAt_eq, bigSep_congr fun h _ => tileAt_eq X c b a h]
  exact Entails.of_eq (Ring.pointsTo_sub_blocks (fun h : Fin 16 => (tileR a h).set) (fun h h' hne => tile_disj a h h' hne) (halfR a).set
    (tile_union a) (q := fullShare) (ℓ := tLoc c) (tileV X c b)).symm

/-- Start the copy of one head. -/
theorem start_one (b : Fin 4) (a : Fin 2) (h : Fin 16) :
    iprop((srcAt X c b a h ∗ anyOf c (xDst a h).view ∗ dutyTok ER (copyCell c a) b.val h) ∗ Know X W κ σ ∗ reached ER (copyCell c a) b.val)
      ⊢ WP c (startX (F := F) c b a h) (fun _ => iprop(cred (tallyAt (copyCell c a) 0 NX) ∗ Know X W κ σ ∗ reached ER (copyCell c a) b.val)) := by
  unfold srcAt anyOf Release.slot
  iintro ⟨⟨Hs, ⟨%fd, Hd⟩, Ht⟩, #HK, #Hr⟩
  iapply (Rounds.wp_copy_pointsTo 𝒱₀ ER (sched X W) (c : Thread nD τ) none (src := xSrc c b a h) (dst := xDst a h) (sem := .dma (xSem a)) (q := fullShare)
      (fs := X c) (fd := fd) (r := b.val) (d := h) (κ := κ (copyCell c a))
      (by rw [duties_copy]; exact Finset.mem_univ _) 0 NX rfl (amount_copy X W c a _ _)
      (by
        rw [payload_copy]; unfold copied tileAt srcAt
        iintro ⟨Hd, Hs⟩
        isplitl [Hd]
        · iapply (Entails.of_eq (pointsTo_congr (tile_written X c b a h fd))) $$ Hd
        iexact Hs)) $$ [Hs Hd Ht]
  · isplitr; · iapply (know_own X W κ σ c (.inl a)) $$ HK
    isplitl [Hs]; · iexact Hs
    isplitl [Hd]; · iexact Hd
    isplitl [Ht]; · iexact Ht
    iexact Hr
  iintro Hc
  rw [wp_ret]; imodintro
  isplitl [Hc]; · iexact Hc
  isplitr; · iexact HK
  iexact Hr

/-- The copies of a half, in flight. -/
def flying (a : Fin 2) : sProp 𝕄 := bigSep Finset.univ fun _ : Fin 16 => cred (tallyAt (copyCell c a) 0 NX)
/-- The right to start the copies of a half of batch `b`. -/
def copyToks (b : Fin 4) (a : Fin 2) : sProp 𝕄 := bigSep Finset.univ fun h : Fin 16 => dutyTok ER (copyCell c a) b.val h
/-- The half's heads of batch `b` in the input. -/
def srcs (b : Fin 4) (a : Fin 2) : sProp 𝕄 := bigSep Finset.univ (srcAt X c b a)

/-- Start the copies of a half. -/
theorem start_all (b : Fin 4) (a : Fin 2) :
    iprop(srcs X c b a ∗ halfAny c a ∗ copyToks c b a ∗ Know X W κ σ ∗ reached ER (copyCell c a) b.val)
      ⊢ WP c (rep 16 (startX (F := F) c b a)) (fun _ => flying (F := F) c a) := by
  unfold srcs copyToks flying
  iintro ⟨Hs, Hd, Ht, #HK, #Hr⟩
  ihave Hd := (half_tiles c a) $$ Hd
  ihave Hw := (WP_rep c 16 (startX (F := F) c b a)
    (fun h => iprop(srcAt X c b a h ∗ anyOf c (xDst a h).view ∗ dutyTok ER (copyCell c a) b.val h))
    (fun _ => cred (tallyAt (copyCell c a) 0 NX)) (fun _ => iprop(Know X W κ σ ∗ reached ER (copyCell c a) b.val))
    (fun h => start_one X W κ σ c b a h)) $$ [Hs Hd Ht]
  · isplitl [Hs Hd Ht]
    · rw [bigSep_sep', bigSep_sep']
      isplitl [Hs]; · iexact Hs
      isplitl [Hd]; · iexact Hd
      iexact Ht
    isplitr; · iexact HK
    iexact Hr
  iapply wp_wand $$ Hw
  iintro %_ ⟨H, -⟩
  iexact H

/-- While a half's copies are waited for: `i` of them counted, and the heads that have surely come. -/
def waiting (b : Fin 4) (a : Fin 2) (O : CellTallies nD τ sig (Fin 2)) (i : ℕ) : sProp 𝕄 :=
  iprop(owing c O ∗ if i < 16 then iprop(∃ S : Finset (Fin 16), atPos ER (copyCell c a) b.val S (i * NX) ∗ bigSep S (copied X c b a))
    else iprop(atPos ER (copyCell c a) (b.val + 1) ∅ 0 ∗ reached ER (copyCell c a) (b.val + 1) ∗ bigSep Finset.univ (copied X c b a)))

/-- Wait for the copy of one head. -/
theorem wait_one (b : Fin 4) (a : Fin 2) (O : CellTallies nD τ sig (Fin 2)) (hO : Above 0 O) (h : Fin 16) :
    iprop(cred (tallyAt (copyCell c a) 0 NX) ∗ Know X W κ σ ∗ waiting X c b a O h.val)
      ⊢ WP c (waitX (F := F) c b a h) (fun _ => iprop(emp ∗ Know X W κ σ ∗ waiting X c b a O (h.val + 1))) := by
  unfold waiting owing
  rw [if_pos h.isLt]
  iintro ⟨Hc, #HK, ⟨%V, HO⟩, ⟨%S, Hat, Hp⟩⟩
  by_cases hl : h.val + 1 < 16
  · rw [if_pos hl]
    iapply (Rounds.wp_wait 𝒱₀ ER (sched X W) (c : Thread nD τ) none (κ := κ (copyCell c a))
        (wpE_waitDma2_eq 𝒱₀ (c : Thread nD τ) none Set.univ) (Set.mem_univ _) (cr := Finsupp.single 0 NX) (O := O) (W := V)
        {(SemLoc.dma (xSem a), 0)} (R := b.val) (m := h.val * NX) (T := S) (by rw [Util.total_single]; rfl) (image_single_subset _ _ _)) $$ [Hc HO Hat]
    · isplitr; · iapply (know_own X W κ σ c (.inl a)) $$ HK
      isplitl [Hc]; · iexact Hc
      isplitl [HO]; · iexact HO
      isplitr; · iapply (know_mayWait X W κ σ c (.dma (xSem a)) 0 (by rw [lv_copy]; exact hO)) $$ HK
      iexact Hat
    iintro %S' ⟨%hS, HO, Hat, Hn⟩
    rw [wp_ret]; imodintro
    isplitr; · iempintro
    isplitr; · iexact HK
    isplitl [HO]; · iexists _; iexact HO
    iexists S'
    isplitl [Hat]
    · rw [show (h.val + 1) * NX = h.val * NX + (xDst a h).view.dmaCredit from by rw [Nat.add_mul, one_mul]; rfl]
      iexact Hat
    iapply (sep_rest hS.1 (copied X c b a))
    isplitl [Hp]; · iexact Hp
    iapply (Entails.of_eq (bigSep_congr fun d _ => payload_copy X W c a b d)) $$ Hn
  · rw [if_neg hl]
    have h15 : h.val = 15 := by have := h.isLt; omega
    iapply (Rounds.wp_wait_rest_token 𝒱₀ ER (sched X W) (c : Thread nD τ) none (κ := κ (copyCell c a))
        (wpE_waitDma2_eq 𝒱₀ (c : Thread nD τ) none Set.univ) (Set.mem_univ _) 0 (O := O) (W := V) (R := b.val) (m := h.val * NX) (T := S)
        (by rw [expect_copy, h15, show (xDst a h).view.dmaCredit = NX from rfl]; omega)) $$ [Hc HO Hat]
    · isplitr; · iapply (know_own X W κ σ c (.inl a)) $$ HK
      isplitl [Hc]; · iexact Hc
      isplitl [HO]; · iexact HO
      isplitr; · iapply (know_mayWait X W κ σ c (.dma (xSem a)) 0 (by rw [lv_copy]; exact hO)) $$ HK
      iexact Hat
    iintro ⟨HO, Hat, Hr, Hn⟩
    rw [wp_ret]; imodintro
    isplitr; · iempintro
    isplitr; · iexact HK
    isplitl [HO]; · iexists _; iexact HO
    isplitl [Hat]; · iexact Hat
    isplitl [Hr]; · iexact Hr
    iapply (sep_rest (Finset.subset_univ S) (copied X c b a))
    isplitl [Hp]; · iexact Hp
    rw [duties_copy]
    iapply (Entails.of_eq (bigSep_congr fun d _ => payload_copy X W c a b d)) $$ Hn

/-- Wait for the copies of a half. -/
theorem wait_all (b : Fin 4) (a : Fin 2) (O : CellTallies nD τ sig (Fin 2)) (hO : Above 0 O) :
    iprop(flying (F := F) c a ∗ Know X W κ σ ∗ owing c O ∗ atPos ER (copyCell c a) b.val ∅ 0)
      ⊢ WP c (rep 16 (waitX (F := F) c b a)) (fun _ => iprop(halfAt X c b a ∗ srcs X c b a ∗ owing c O
          ∗ atPos ER (copyCell c a) (b.val + 1) ∅ 0 ∗ reached ER (copyCell c a) (b.val + 1))) := by
  unfold flying srcs
  iintro ⟨Hf, #HK, HO, Hat⟩
  ihave Hw := (WP_rep c 16 (waitX (F := F) c b a) (fun _ => cred (tallyAt (copyCell c a) 0 NX)) (fun _ => iprop(emp))
    (fun i => iprop(Know X W κ σ ∗ waiting X c b a O i)) (fun h => wait_one X W κ σ c b a O hO h)) $$ [Hf HO Hat]
  · isplitl [Hf]; · iexact Hf
    isplitr; · iexact HK
    unfold waiting
    rw [if_pos (by decide)]
    isplitl [HO]; · iexact HO
    iexists ∅
    isplitl [Hat]; · rw [Nat.zero_mul]; iexact Hat
    rw [bigSep_empty]; iempintro
  iapply wp_wand $$ Hw
  iintro %_ ⟨-, -, H⟩
  unfold waiting
  rw [if_neg (by decide)]
  icases H with ⟨HO, Hat, Hr, Hc⟩
  unfold copied
  ihave Hc := (Entails.of_eq (bigSep_sep' (s := Finset.univ) (Φ := tileAt X c b a) (Ψ := srcAt X c b a))) $$ Hc
  icases Hc with ⟨Ht, Hs⟩
  isplitl [Ht]; · iapply (tiles_half X c b a) $$ Ht
  isplitl [Hs]; · iexact Hs
  isplitl [HO]; · iexact HO
  isplitl [Hat]; · iexact Hat
  iexact Hr

end Cert.KernelIdeal.OProj

end
-- ==== Proof.Chunks.lean ====
/- The chunks of a product: computed, sent, waited for, received and added; the barrier and the credits. -/
module

public import proofs.«01_k».proof.Proof.Copies
public import Idealize.ShloMosaic.Lib.ViewIndex

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

/-! ## A part seen through a reshaped view -/

omit [FloatOps F] in
theorem any_reshape (c : Dev nD) {sp : Space} {s s' : Shape} {e : EltTy} (v : View sig .tc sp s e) (h : s'.numel = s.numel) :
    (anyOf (F := F) c (v.reshape s' h)) = anyOf c v := by
  show (Release.slot (v.loc (c : Thread nD τ)) (v.reshape s' h).set : sProp 𝕄) = _
  rw [View.set_reshape]

omit [FloatOps F] in
/-- What one view reads, written through another, both reshaped, is read back. -/
theorem read_moved {sp sp' : Space} {s s' : Shape} {e : EltTy} (v : View sig .tc sp s e) (u : View sig .tc sp' s e) (h : s'.numel = s.numel)
    (fd : v.ty.Contents (Elt F)) (fs : u.ty.Contents (Elt F)) :
    v.read (Elt F) ((v.reshape s' h).write (Elt F) fd ((u.reshape s' h).read (Elt F) fs) Finset.univ) = u.read (Elt F) fs := by
  funext y
  obtain ⟨z, rfl⟩ := (Shape.reshapeEquiv h).surjective y
  rw [View.read_write_reshape]
  rfl

variable (X : Dev nD → Vec F S4x1024x16x128 .f32) (W : Dev nD → Vec F S2048x4096 .bf16)
variable (κ : GSem nD τ sig → ℕ) (σ : Key → ℕ) (c : Dev nD)

/-- The staged weights. -/
def wHeld : sProp 𝕄 := wA.view.loc (c : Thread nD τ) ↦[Finset.univ]{fullShare} W c

/-- Chunk `j` of slot `s`, in the sent and in the received buffer; chunk `j` of batch `b` of the result. -/
abbrev sPart (s : Fin 2) (j : Fin 4) : View sig .tc .vmem S1x512x1024 .bf16 := sA.access (chunkR s j)
abbrev rPart (s : Fin 2) (j : Fin 4) : View sig .tc .vmem S1x512x1024 .bf16 := rA.access (chunkR s j)
abbrev oPart (b j : Fin 4) : View sig .tc .vmem S1x512x1024 .bf16 := oA.access (outR b j)

/-! ## Computing -/

theorem loadW_one (j : Fin 4) : wHeld W c ⊢ WP c (loadW (F := F) j) (fun w => iprop(⌜w = colsV W c j⌝ ∗ wHeld W c)) :=
  load_at c wA (colR j) (View.loadsAt_vmem h_S2048x1024) Finset.univ (Finset.subset_univ _) (W c)

theorem loadX_one (b : Fin 4) (a : Fin 2) :
    halfAt X c b a ⊢ WP c (loadX (F := F) a) (fun x => iprop(⌜x = rowsV X c b a⌝ ∗ halfAt X c b a)) :=
  load_at c tA (halfR a) (View.loadsAt_vmem h_S1x512x2048) _ (Finset.Subset.refl _) (tileV X c b)

theorem put_one (s : Fin 2) (x : Vec F S1x512x2048 .f32) (j : Fin 4) :
    iprop(anyOf c (sPart s j) ∗ wHeld W c)
      ⊢ WP c (putChunk (F := F) s x j) (fun _ => iprop(holds c (sPart s j) (prod x (colsV W c j)) ∗ wHeld W c)) := by
  unfold putChunk
  iintro ⟨Hs, Hw⟩
  iapply (WP_seq c (loadW_one W c j))
  isplitl [Hw]; · iexact Hw
  iintro %w ⟨%hw, Hw⟩
  subst hw
  iapply (WP_seq c (load_any c sA (chunkR s j) (View.loadsAt_vmem h_S1x512x1024)))
  isplitl [Hs]; · iexact Hs
  iintro %y Hs
  ihave Hp := (store_any c sA (chunkR s j) (prod x (colsV W c j))
    (View.stores_vmem h_S1x512x1024 ((Memref.isWhole_whole _).storeExact_slice rfl _ (chunk_packed s j)) (fun _ => rfl)) (.inl rfl)) $$ Hs
  iapply wp_wand $$ Hp
  iintro %_ Hs
  isplitl [Hs]; · iexact Hs
  iexact Hw

theorem own_one (b : Fin 4) (x : Vec F S1x512x2048 .f32) (j : Fin 4) :
    iprop(anyOf c (oPart b j) ∗ wHeld W c)
      ⊢ WP c (ownChunk (F := F) b x j) (fun _ => iprop(holds c (oPart b j) (prod x (colsV W c j)) ∗ wHeld W c)) := by
  unfold ownChunk
  iintro ⟨Hs, Hw⟩
  iapply (WP_seq c (loadW_one W c j))
  isplitl [Hw]; · iexact Hw
  iintro %w ⟨%hw, Hw⟩
  subst hw
  iapply (WP_seq c (load_any c oA (outR b j) (View.loadsAt_vmem h_S1x512x1024)))
  isplitl [Hs]; · iexact Hs
  iintro %y Hs
  ihave Hp := (store_any c oA (outR b j) (prod x (colsV W c j))
    (View.stores_vmem h_S1x512x1024 ((hstage0_1 0).storeExact_slice rfl _ (out_packed b j)) (fun _ => rfl)) (.inl rfl)) $$ Hs
  iapply wp_wand $$ Hp
  iintro %_ Hs
  isplitl [Hs]; · iexact Hs
  iexact Hw

/-! ## Sending -/

/-- What sending chunk `j` of batch `b` uses up. -/
def sendToks (b j : Fin 4) : sProp 𝕄 :=
  iprop(dutyTok ER (sentCell c (slot b) j) (rnd b).val 0 ∗ dutyTok ER (recvCell (peer c) (slot b) j) (rnd b).val 0
    ∗ Release.writeTok ES (peer c, slot b, j) ((rnd b).val + 1))

/-- The device a chunk goes to, as the kernel computes it. -/
abbrev dest (b j : Fin 4) : Dev nD := ⟨devTab c b j, devTab_lt c b j⟩

theorem send_one (b j : Fin 4) (O : CellTallies nD τ sig (Fin 2)) :
    iprop(Know X W κ σ ∗ reached ER (sentCell c (slot b) j) (rnd b).val ∗ leave1 (F := F) (peer c) (slot b) (rnd b).val j
        ∗ holds c (sPart (slot b) j) (chunkV X W c b 0 j) ∗ sendToks (F := F) c b j ∗ owing c (O + oweChunk c b j))
      ⊢ WP c (sendChunk (F := F) c b j) (fun _ => iprop(cred (tallyAt (sentCell c (slot b) j) 0 NC) ∗ owing c O)) := by
  have hd : peer c = dest c b j := (devTab_peer c b j).symm
  have hp : peer (dest c b j) = c := by rw [← hd, peer_peer]
  unfold sendToks leave1 holds owing sendChunk oweChunk
  rw [hd]
  iintro ⟨#HK, #Hr, ⟨#Hl, #Hl'⟩, ⟨%f, %hf, Hs⟩, ⟨Ht, Ht', Hw⟩, ⟨%V, HO⟩⟩
  imod (Release.slot_take ES (ι := σ (dest c b j, slot b, j)) (k := (dest c b j, slot b, j)) (S := slotRes (F := F) (dest c b j, slot b, j)) (Es := Set.univ)
    (Set.mem_univ _) ((rnd b).val + 1)) $$ [Hw] with Hd
  · isplitr; · iapply (know_slot X W κ σ (dest c b j, slot b, j)) $$ HK
    isplitr; · iexact Hl
    iexact Hw
  unfold slotRes
  ihave Hd := (Entails.of_eq (any_reshape (F := F) (dest c b j) (rPart (slot b) j) (Shape.Squeezes.numel_eq squeezes_S1x512x1024_S512x1024)).symm) $$ Hd
  unfold anyOf Release.slot
  icases Hd with ⟨%fd, Hd⟩
  iapply (Rounds.wp_send_pointsTo 𝒱₀ ER (sched X W) (c : Thread nD τ) none (c' := (dest c b j : Thread nD τ)) (src := sChunk (slot b) j) (dst := rChunk (slot b) j)
      (sS := .dma (sSem (slot b) j)) (sem := .dma (rSem (slot b) j)) (q := fullShare) (fs := f) (fd := fd)
      (κ₁ := κ (sentCell c (slot b) j)) (κ₂ := κ (recvCell (dest c b j) (slot b) j))
      (r₁ := (rnd b).val) (r₂ := (rnd b).val) (d₁ := 0) (d₂ := 0)
      (by rw [duties_sent]; exact Finset.mem_singleton_self _) (by rw [duties_recv]; exact Finset.mem_singleton_self _)
      (rnd b) 0 NC rfl (amount_sent X W c _ _ _ _) (amount_recv X W (dest c b j) _ _ _ _) O rfl (W := V)
      (by
        rw [payload_sent, ← any_reshape (F := F) c (sPart (slot b) j) (Shape.Squeezes.numel_eq squeezes_S1x512x1024_S512x1024)]
        unfold anyOf Release.slot
        iintro H; iexists _; iexact H)
      (by
        rw [payload_recv, hp]
        unfold holds
        iintro H
        iexists _
        isplitr; swap
        · iapply (Entails.of_eq (congrArg (fun I => ((rPart (slot b) j).loc (dest c b j : Thread nD τ) ↦[I]{fullShare} _ : sProp 𝕄))
            (View.set_reshape (rPart (slot b) j) (Shape.Squeezes.numel_eq squeezes_S1x512x1024_S512x1024)))) $$ H
        ipureintro
        exact (read_moved (rPart (slot b) j) (sPart (slot b) j) (Shape.Squeezes.numel_eq squeezes_S1x512x1024_S512x1024) fd f).trans hf))
    $$ [Hs Hd HO Ht Ht']
  · isplitr; · iapply (know_own X W κ σ c (.inr (.inl (slot b, j)))) $$ HK
    isplitr; · iapply (know_own X W κ σ (dest c b j) (.inr (.inr (.inl (slot b, j))))) $$ HK
    isplitl [Hs]
    · iapply (Entails.of_eq (congrArg (fun I => ((sPart (slot b) j).loc (c : Thread nD τ) ↦[I]{fullShare} f : sProp 𝕄))
            (View.set_reshape (sPart (slot b) j) (Shape.Squeezes.numel_eq squeezes_S1x512x1024_S512x1024)).symm)) $$ Hs
    isplitl [Hd]; · iexact Hd
    isplitl [HO]; · iexact HO
    isplitl [Ht]; · iexact Ht
    isplitr; · iexact Hr
    isplitl [Ht']; · iexact Ht'
    iexact Hl'
  iintro ⟨Hc, HO⟩
  rw [wp_ret]; imodintro
  isplitl [Hc]; · iexact Hc
  iexists _; iexact HO

/-- Wait until a chunk has left. -/
theorem sent_one (s : Fin 2) (j : Fin 4) (r : Fin 2) (O : CellTallies nD τ sig (Fin 2)) (hO : Above 0 O) :
    iprop((cred (tallyAt (sentCell c s j) 0 NC) ∗ atPos ER (sentCell c s j) r.val ∅ 0) ∗ Know X W κ σ ∗ owing c O)
      ⊢ WP c (waitSent (F := F) s j) (fun _ => iprop((anyOf c (sPart s j) ∗ atPos ER (sentCell c s j) (r.val + 1) ∅ 0
          ∗ reached ER (sentCell c s j) (r.val + 1)) ∗ Know X W κ σ ∗ owing c O)) := by
  unfold owing waitSent
  iintro ⟨⟨Hc, Hat⟩, #HK, ⟨%V, HO⟩⟩
  iapply (Rounds.wp_wait_rest_token 𝒱₀ ER (sched X W) (c : Thread nD τ) none (κ := κ (sentCell c s j))
      (wpE_waitDma2_eq 𝒱₀ (c : Thread nD τ) none Set.univ) (Set.mem_univ _) 0 (O := O) (W := V) (R := r.val) (m := 0) (T := ∅)
      (by rw [expect_sent, show (sChunk s j).view.dmaCredit = NC from rfl]; omega)) $$ [Hc HO Hat]
  · isplitr; · iapply (know_own X W κ σ c (.inr (.inl (s, j)))) $$ HK
    isplitl [Hc]; · iexact Hc
    isplitl [HO]; · iexact HO
    isplitr; · iapply (know_mayWait X W κ σ c (.dma (sSem s j)) 0 (by rw [lv_sent]; exact hO)) $$ HK
    iexact Hat
  iintro ⟨HO, Hat, Hr, Hp⟩
  ihave Hp := (Entails.of_eq (show bigSep ((sched X W).duties (sentCell c s j) r.val \ ∅) (fun d => (sched X W).payload (sentCell c s j) r.val d)
    = anyOf c (sPart s j) by rw [duties_sent, Finset.sdiff_empty, bigSep_singleton, payload_sent])) $$ Hp
  rw [wp_ret]; imodintro
  isplitl [Hp Hat Hr]
  · isplitl [Hp]; · iexact Hp
    isplitl [Hat]; · iexact Hat
    iexact Hr
  isplitr; · iexact HK
  iexists _; iexact HO

/-! ## Receiving -/

/-- Wait until a chunk has come. -/
theorem recv_one (b j : Fin 4) (O : CellTallies nD τ sig (Fin 2)) (hO : Above (if rnd b = 0 then 2 else 5) O) :
    iprop((cred (tallyAt (recvCell c (slot b) j) (rnd b) NC) ∗ atPos ER (recvCell c (slot b) j) (rnd b).val ∅ 0) ∗ Know X W κ σ ∗ owing c O)
      ⊢ WP c (waitRecv (F := F) (slot b) j) (fun _ => iprop((holds c (rPart (slot b) j) (chunkV X W (peer c) b 0 j)
          ∗ atPos ER (recvCell c (slot b) j) ((rnd b).val + 1) ∅ 0 ∗ reached ER (recvCell c (slot b) j) ((rnd b).val + 1)) ∗ Know X W κ σ ∗ owing c O)) := by
  unfold owing waitRecv
  iintro ⟨⟨Hc, Hat⟩, #HK, ⟨%V, HO⟩⟩
  iapply (Rounds.wp_wait_rest_token 𝒱₀ ER (sched X W) (c : Thread nD τ) none (κ := κ (recvCell c (slot b) j))
      (wpE_waitDma2_eq 𝒱₀ (c : Thread nD τ) none Set.univ) (Set.mem_univ _) (rnd b) (O := O) (W := V) (R := (rnd b).val) (m := 0) (T := ∅)
      (by rw [expect_recv, show (rChunk (slot b) j).view.dmaCredit = NC from rfl]; omega)) $$ [Hc HO Hat]
  · isplitr; · iapply (know_own X W κ σ c (.inr (.inr (.inl (slot b, j))))) $$ HK
    isplitl [Hc]; · iexact Hc
    isplitl [HO]; · iexact HO
    isplitr; · iapply (know_mayWait X W κ σ c (.dma (rSem (slot b) j)) (rnd b) (by rw [lv_recv]; exact hO)) $$ HK
    iexact Hat
  iintro ⟨HO, Hat, Hr, Hp⟩
  ihave Hp := (Entails.of_eq (show bigSep ((sched X W).duties (recvCell c (slot b) j) (rnd b).val \ ∅)
      (fun d => (sched X W).payload (recvCell c (slot b) j) (rnd b).val d)
    = holds c (rPart (slot b) j) (chunkV X W (peer c) b 0 j) by rw [duties_recv, Finset.sdiff_empty, bigSep_singleton, payload_recv])) $$ Hp
  rw [wp_ret]; imodintro
  isplitl [Hp Hat Hr]
  · isplitl [Hp]; · iexact Hp
    isplitl [Hat]; · iexact Hat
    iexact Hr
  isplitr; · iexact HK
  iexists _; iexact HO

/-- Receive a chunk and add it to the result. -/
theorem add_one (b j : Fin 4) (O : CellTallies nD τ sig (Fin 2)) (hO : Above (if rnd b = 0 then 2 else 5) O) :
    iprop((holds c (oPart b j) (chunkV X W c b 1 j) ∗ cred (tallyAt (recvCell c (slot b) j) (rnd b) NC) ∗ atPos ER (recvCell c (slot b) j) (rnd b).val ∅ 0)
        ∗ Know X W κ σ ∗ owing c O)
      ⊢ WP c (addChunk (F := F) b j) (fun _ => iprop((holds c (oPart b j) (outV X W c b j) ∗ anyOf c (rPart (slot b) j)
          ∗ atPos ER (recvCell c (slot b) j) ((rnd b).val + 1) ∅ 0 ∗ reached ER (recvCell c (slot b) j) ((rnd b).val + 1)) ∗ Know X W κ σ ∗ owing c O)) := by
  unfold addChunk
  iintro ⟨⟨Ho, Hc, Hat⟩, #HK, HO⟩
  iapply (WP_seq c (recv_one X W κ σ c b j O hO))
  isplitl [Hc Hat HO]
  · isplitl [Hc Hat]
    · isplitl [Hc]; · iexact Hc
      iexact Hat
    isplitr; · iexact HK
    iexact HO
  iintro %_ ⟨⟨Hp, Hat, Hr⟩, _, HO⟩
  iapply (WP_seq c (load_holds c oA (outR b j) (View.loadsAt_vmem h_S1x512x1024) (chunkV X W c b 1 j)))
  isplitl [Ho]; · iexact Ho
  iintro %x ⟨%hx, Ho⟩
  iapply (WP_seq c (load_holds c rA (chunkR (slot b) j) (View.loadsAt_vmem h_S1x512x1024) (chunkV X W (peer c) b 0 j)))
  isplitl [Hp]; · iexact Hp
  iintro %y ⟨%hy, Hp⟩
  ihave Ho := (holds_any c (oPart b j) _) $$ Ho
  iapply (WP_seq c (load_any c oA (outR b j) (View.loadsAt_vmem h_S1x512x1024)))
  isplitl [Ho]; · iexact Ho
  iintro %z Ho
  ihave Hw := (store_any c oA (outR b j) (sum2 x y)
    (View.stores_vmem h_S1x512x1024 ((hstage0_1 0).storeExact_slice rfl _ (out_packed b j)) (fun _ => rfl)) (.inl rfl)) $$ Ho
  iapply wp_wand $$ Hw
  iintro %_ Ho
  isplitr [HO]
  · isplitl [Ho]
    · rw [hx, hy]; iexact Ho
    isplitl [Hp]; · iapply (holds_any c (rPart (slot b) j) _) $$ Hp
    isplitl [Hat]; · iexact Hat
    iexact Hr
  isplitr; · iexact HK
  iexact HO

end Cert.KernelIdeal.OProj

end
-- ==== Proof.Signals.lean ====
/- The barrier, and the credits that let a slot be written again. -/
module

public import proofs.«01_k».proof.Proof.Chunks

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (X : Dev nD → Vec F S4x1024x16x128 .f32) (W : Dev nD → Vec F S2048x4096 .bf16)
variable (κ : GSem nD τ sig → ℕ) (σ : Key → ℕ) (c : Dev nD)

/-! ## Giving a slot back -/

/-- The reader's side of a received slot, `n` times given back. -/
def readers (s : Fin 2) (n : ℕ) : sProp 𝕄 := bigSep Finset.univ fun j : Fin 4 => Release.readerAt ES (c, s, j) n

/-- An index of a chunk. -/
def z0 : S1x512x1024.Idx := fun a => ⟨0, by revert a; decide⟩

theorem slot_once (k : Key) : iprop(slotRes (F := F) k ∗ slotRes k) ⊢ (False : sProp 𝕄) := by
  unfold slotRes anyOf
  refine Release.slot_slot_false ?_
  exact ⟨_, View.emb_mem_set (rPart k.2.1 k.2.2) z0⟩

theorem give_slot (s : Fin 2) (n : ℕ) :
    iprop(Know X W κ σ ∗ readers (F := F) c s n ∗ (bigSep Finset.univ fun j : Fin 4 => anyOf c (rPart s j))
        ∗ (bigSep Finset.univ fun j : Fin 4 => reached ER (recvCell c s j) n))
      ⊢ |={Set.univ}=> iprop(readers (F := F) c s (n + 1) ∗ leave (F := F) c s n) := by
  have e : iprop(readers (F := F) c s n ∗ (bigSep Finset.univ fun j : Fin 4 => anyOf c (rPart s j))
        ∗ (bigSep Finset.univ fun j : Fin 4 => reached ER (recvCell c s j) n))
      = bigSep Finset.univ fun j : Fin 4 => iprop(Release.readerAt ES (c, s, j) n ∗ anyOf c (rPart s j) ∗ reached ER (recvCell c s j) n) := by
    unfold readers; rw [bigSep_sep', bigSep_sep']
  rw [e]
  iintro ⟨#HK, H⟩
  have st : ∀ j ∈ (Finset.univ : Finset (Fin 4)),
      iprop(Know X W κ σ ∗ Release.readerAt ES (c, s, j) n ∗ anyOf c (rPart s j) ∗ reached ER (recvCell c s j) n)
        ⊢ |={Set.univ}=> iprop(Release.readerAt ES (c, s, j) (n + 1) ∗ leave1 (F := F) c s n j) := fun j _ => by
    unfold leave1
    iintro ⟨#HK, Hr, Ha, Hq⟩
    imod (Release.slot_release ES (ι := σ (c, s, j)) (k := (c, s, j)) (S := slotRes (F := F) (c, s, j)) (Es := Set.univ)
      (Set.mem_univ _) (slot_once (c, s, j)) n) $$ [Hr Ha] with ⟨Hr, Hl⟩
    · isplitr; · iapply (know_slot X W κ σ (c, s, j)) $$ HK
      isplitl [Hr]; · iexact Hr
      unfold slotRes; iexact Ha
    imodintro
    isplitl [Hr]; · iexact Hr
    isplitl [Hl]; · iexact Hl
    iexact Hq
  ihave H := (Entails.of_eq (bigSep_sep' (M := 𝕄) (s := Finset.univ) (Φ := fun _ : Fin 4 => Know X W κ σ)
    (Ψ := fun j : Fin 4 => iprop(Release.readerAt ES (c, s, j) n ∗ anyOf c (rPart s j) ∗ reached ER (recvCell c s j) n))).symm) $$ [H]
  · isplitr; · iapply (bigSep_intro_persistent fun _ _ => BIBase.Entails.refl) $$ HK
    iexact H
  ihave H := (sep_mono_at st) $$ H
  imod (bigSep_fupd _ _) $$ H with H
  ihave H := (Entails.of_eq (bigSep_sep' (M := 𝕄) (s := Finset.univ) (Φ := fun j : Fin 4 => Release.readerAt ES (c, s, j) (n + 1))
    (Ψ := fun j : Fin 4 => leave1 (F := F) c s n j))) $$ H
  imodintro
  unfold readers leave
  iexact H

/-- The payment with which a device says that its slot `s` is free again. -/
def payNo (s : Fin 2) : Fin 16 := ⟨s.val, by have := s.isLt; omega⟩

theorem payNo_mem (s : Fin 2) : payNo s ∈ (sched X W).duties (creditCell (peer c)) 0 := by
  rw [duties_credit]; revert s; decide

theorem give_credit (s : Fin 2) (O : CellTallies nD τ sig (Fin 2)) :
    iprop(Know X W κ σ ∗ reached ER (creditCell (peer c)) 0 ∗ dutyTok ER (creditCell (peer c)) 0 (payNo s)
        ∗ creditPay (F := F) (peer c) (payNo s) ∗ owing c (O + oweCredit c s))
      ⊢ WP c (giveCredit (F := F) c s) (fun _ => owing c O) := by
  unfold owing giveCredit oweCredit
  have hd := creditTab_peer c s
  rw [hd]
  iintro ⟨#HK, #Hr, Ht, Hp, ⟨%V, HO⟩⟩
  iapply (Rounds.wp_signal 𝒱₀ ER (sched X W) (c : Thread nD τ) none (dst := (peer c : Thread nD τ)) (sem := kSem) (r := 0) (d := payNo s)
      (κ := κ (creditCell (peer c))) (payNo_mem X W c s) (amount_credit X W (peer c) _ _) s O rfl (W := V)) $$ [Ht Hp HO]
  · isplitr; · iapply (know_own X W κ σ (peer c) (.inr (.inr (.inr ())))) $$ HK
    isplitl [HO]; · iexact HO
    isplitl [Ht]; · iexact Ht
    isplitl [Hp]; · rw [payload_credit]; iexact Hp
    iexact Hr
  iintro HO
  rw [wp_ret]; imodintro
  iexists _; iexact HO

/-! ## The barrier -/

theorem meet (O : CellTallies nD τ sig (Fin 2)) (hO : Above 1 O) :
    iprop(Know X W κ σ ∗ reached ER (barCell (peer c)) 0 ∗ dutyTok ER (barCell (peer c)) 0 0
        ∗ barPay (F := F) (peer c) ∗ cred (tallyAt (barCell c) 0 1) ∗ atPos ER (barCell c) 0 ∅ 0 ∗ owing c (O + oweBar c))
      ⊢ WP c (barrier (F := F) c) (fun _ => iprop(barPay (F := F) c ∗ atPos ER (barCell c) 1 ∅ 0 ∗ owing c O)) := by
  unfold owing barrier oweBar
  rw [dev1_peer]
  iintro ⟨#HK, #Hr, Ht, Hp, Hc, Hat, ⟨%V, HO⟩⟩
  iapply (Rounds.wp_signal 𝒱₀ ER (sched X W) (c : Thread nD τ) none (dst := (peer c : Thread nD τ)) (sem := bSem) (r := 0) (d := 0)
      (κ := κ (barCell (peer c))) (by rw [duties_bar]; exact Finset.mem_singleton_self _) (amount_bar X W (peer c) _ _) 0 O rfl (W := V)) $$ [Ht Hp HO]
  · isplitr; · iapply (know_bar X W κ σ (peer c)) $$ HK
    isplitl [HO]; · iexact HO
    isplitl [Ht]; · iexact Ht
    isplitl [Hp]; · rw [payload_bar]; iexact Hp
    iexact Hr
  iintro HO
  iapply (Rounds.wp_wait_rest_token 𝒱₀ ER (sched X W) (c : Thread nD τ) none (κ := κ (barCell c))
      (wpE_semWait_eq 𝒱₀ (c : Thread nD τ) none Set.univ) (Set.mem_univ _) 0 (O := O) (W := V) (R := 0) (m := 0) (T := ∅)
      ((Nat.zero_add 1).trans (expect_bar X W c).symm)) $$ [Hc HO Hat]
  · isplitr; · iapply (know_bar X W κ σ c) $$ HK
    isplitl [Hc]; · iexact Hc
    isplitl [HO]; · iexact HO
    isplitr; · iapply (know_mayWait X W κ σ c (.reg bSem) 0 (by rw [lv_bar]; exact hO)) $$ HK
    iexact Hat
  iintro ⟨HO, Hat, -, Hp⟩
  ihave Hp := (Entails.of_eq (show bigSep ((sched X W).duties (barCell c) 0 \ ∅) (fun d => (sched X W).payload (barCell c) 0 d) = barPay c by
    rw [duties_bar, Finset.sdiff_empty, bigSep_singleton, payload_bar])) $$ Hp
  rw [wp_ret]; imodintro
  isplitl [Hp]; · iexact Hp
  isplitl [Hat]; · iexact Hat
  iexists _; iexact HO

/-! ## The two waits for a credit -/

/-- Between the two waits, one of the two payments has been taken. -/
def halfway : sProp 𝕄 :=
  iprop(∃ S : Finset (Fin 16), ⌜S ⊆ {0, 1}⌝ ∗ atPos ER (creditCell c) 0 S 1 ∗ bigSep S (creditPay (F := F) c))

theorem creditPay_left (d : Fin 16) : creditPay (F := F) c d ⊢ leave (F := F) (peer c) 0 1 := by
  unfold creditPay
  split
  · iintro H; iexact H
  · iintro ⟨H, -⟩; iexact H

theorem credit_first (O : CellTallies nD τ sig (Fin 2)) (hO : Above 3 O) :
    iprop(Know X W κ σ ∗ cred (tallyAt (creditCell c) 0 1) ∗ atPos ER (creditCell c) 0 ∅ 0 ∗ owing c O)
      ⊢ WP c (semWaitWord kSem 1#32 : Code F PUnit) (fun _ => iprop(leave (F := F) (peer c) 0 1 ∗ halfway (F := F) c ∗ owing c O)) := by
  unfold owing halfway
  iintro ⟨#HK, Hc, Hat, ⟨%V, HO⟩⟩
  iapply (Rounds.wp_wait 𝒱₀ ER (sched X W) (c : Thread nD τ) none (κ := κ (creditCell c))
      (wpE_semWait_eq 𝒱₀ (c : Thread nD τ) none Set.univ) (Set.mem_univ _) (cr := Finsupp.single 0 1) (O := O) (W := V)
      {(SemLoc.reg kSem, 0)} (R := 0) (m := 0) (T := ∅) (Util.total_single _ _) (image_single_subset _ _ _)) $$ [Hc HO Hat]
  · isplitr; · iapply (know_own X W κ σ c (.inr (.inr (.inr ())))) $$ HK
    isplitl [Hc]; · iexact Hc
    isplitl [HO]; · iexact HO
    isplitr; · iapply (know_mayWait X W κ σ c (.reg kSem) 0 (by rw [lv_credit]; exact hO)) $$ HK
    iexact Hat
  iintro %S ⟨%hS, HO, Hat, Hp⟩
  obtain ⟨-, hsub, hcard⟩ := hS
  have hsub' : S ⊆ {0, 1} := by rw [← duties_credit X W c]; exact hsub
  have hne : S.Nonempty := by
    rw [Finset.nonempty_iff_ne_empty]; rintro rfl
    have h2 : ((sched X W).duties (creditCell c) 0 \ ∅).card = 2 := by rw [duties_credit]; rfl
    have h1 : (sched X W).expect (creditCell c) 0 = 2 := expect_credit X W c
    have h3 : 0 + 1 + ((sched X W).duties (creditCell c) 0 \ ∅).card ≤ (sched X W).expect (creditCell c) 0 := hcard
    omega
  ihave #Hp := (Entails.of_eq (show bigSep (S \ ∅) (fun d => (sched X W).payload (creditCell c) 0 d) = bigSep S (creditPay (F := F) c) by
    rw [Finset.sdiff_empty]; exact bigSep_congr fun d _ => payload_credit X W c 0 d)) $$ Hp
  rw [wp_ret]; imodintro
  obtain ⟨d, hd⟩ := hne
  isplitr
  · iapply (creditPay_left c d)
    iapply (sep_elim_at (creditPay (F := F) c) hd) $$ Hp
  isplitl [Hat]
  · iexists S
    isplitr; · ipureintro; exact hsub'
    isplitl [Hat]; · iexact Hat
    iexact Hp
  iexists _; iexact HO

theorem credit_second (O : CellTallies nD τ sig (Fin 2)) (hO : Above 4 O) :
    iprop(Know X W κ σ ∗ cred (tallyAt (creditCell c) 1 1) ∗ halfway (F := F) c ∗ owing c O)
      ⊢ WP c (semWaitWord kSem 1#32 : Code F PUnit) (fun _ => iprop(leave (F := F) (peer c) 1 1 ∗ atPos ER (creditCell c) 1 ∅ 0 ∗ owing c O)) := by
  unfold owing halfway
  iintro ⟨#HK, Hc, ⟨%S, %hS, Hat, #Hs⟩, ⟨%V, HO⟩⟩
  iapply (Rounds.wp_wait_rest_token 𝒱₀ ER (sched X W) (c : Thread nD τ) none (κ := κ (creditCell c))
      (wpE_semWait_eq 𝒱₀ (c : Thread nD τ) none Set.univ) (Set.mem_univ _) 1 (O := O) (W := V) (R := 0) (m := 1) (T := S)
      (expect_credit X W c).symm) $$ [Hc HO Hat]
  · isplitr; · iapply (know_own X W κ σ c (.inr (.inr (.inr ())))) $$ HK
    isplitl [Hc]; · iexact Hc
    isplitl [HO]; · iexact HO
    isplitr; · iapply (know_mayWait X W κ σ c (.reg kSem) 1 (by rw [lv_credit]; exact hO)) $$ HK
    iexact Hat
  iintro ⟨HO, Hat, -, Hp⟩
  ihave Hp := (Entails.of_eq (show bigSep ((sched X W).duties (creditCell c) 0 \ S) (fun d => (sched X W).payload (creditCell c) 0 d)
      = bigSep ({0, 1} \ S) (creditPay (F := F) c) by
    rw [duties_credit]; exact bigSep_congr fun d _ => payload_credit X W c 0 d)) $$ Hp
  ihave Hp := (sep_rest hS (creditPay (F := F) c)) $$ [Hp]
  · isplitr; · iexact Hs
    iexact Hp
  ihave Hp := (sep_elim_at (creditPay (F := F) c) (i := 1) (by decide)) $$ Hp
  ihave Hp := (Entails.of_eq (show creditPay (F := F) c 1 = iprop(leave (F := F) (peer c) 0 1 ∗ leave (F := F) (peer c) 1 1) from if_neg (by decide))) $$ Hp
  icases Hp with ⟨-, Hp⟩
  rw [wp_ret]; imodintro
  isplitl [Hp]; · iexact Hp
  isplitl [Hat]; · iexact Hat
  iexists _; iexact HO

end Cert.KernelIdeal.OProj

end
-- ==== Proof.Segments.lean ====
/- The parts of the body: a half shipped to the peer, a half kept, the received chunks added, the last chunks gone. -/
module

public import proofs.«01_k».proof.Proof.Signals

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (X : Dev nD → Vec F S4x1024x16x128 .f32) (W : Dev nD → Vec F S2048x4096 .bf16)
variable (κ : GSem nD τ sig → ℕ) (σ : Key → ℕ) (c : Dev nD)

/-! ## Four chunks at a time -/

/-- A slot of the send buffer; a slot of the receive buffer; a batch of the result. -/
def sSlot (s : Fin 2) : sProp 𝕄 := bigSep Finset.univ fun j : Fin 4 => anyOf c (sPart s j)
def rSlot (s : Fin 2) : sProp 𝕄 := bigSep Finset.univ fun j : Fin 4 => anyOf c (rPart s j)
def oBatch (b : Fin 4) : sProp 𝕄 := bigSep Finset.univ fun j : Fin 4 => anyOf c (oPart b j)
/-- A batch of the result, first with the device's own half of it, then whole. -/
def oOwn (b : Fin 4) : sProp 𝕄 := bigSep Finset.univ fun j : Fin 4 => holds c (oPart b j) (chunkV X W c b 1 j)
def oDone (b : Fin 4) : sProp 𝕄 := bigSep Finset.univ fun j : Fin 4 => holds c (oPart b j) (outV X W c b j)

def sendAll (b : Fin 4) : sProp 𝕄 := bigSep Finset.univ (sendToks (F := F) c b)
def sentCreds (s : Fin 2) : sProp 𝕄 := bigSep Finset.univ fun j : Fin 4 => cred (tallyAt (sentCell c s j) 0 NC)
def sentAt (s : Fin 2) (r : ℕ) : sProp 𝕄 := bigSep Finset.univ fun j : Fin 4 => atPos ER (sentCell c s j) r ∅ 0
def sentReached (s : Fin 2) (r : ℕ) : sProp 𝕄 := bigSep Finset.univ fun j : Fin 4 => reached ER (sentCell c s j) r
def recvCreds (b : Fin 4) : sProp 𝕄 := bigSep Finset.univ fun j : Fin 4 => cred (tallyAt (recvCell c (slot b) j) (rnd b) NC)
def recvAt (s : Fin 2) (r : ℕ) : sProp 𝕄 := bigSep Finset.univ fun j : Fin 4 => atPos ER (recvCell c s j) r ∅ 0
def recvReached (s : Fin 2) (r : ℕ) : sProp 𝕄 := bigSep Finset.univ fun j : Fin 4 => reached ER (recvCell c s j) r

instance sentReached_persistent (s : Fin 2) (r : ℕ) : BI.Persistent (sentReached (F := F) c s r) := by unfold sentReached; infer_instance
instance recvReached_persistent (s : Fin 2) (r : ℕ) : BI.Persistent (recvReached (F := F) c s r) := by unfold recvReached; infer_instance

instance leave1_persistent (d : Dev nD) (s : Fin 2) (n : ℕ) (j : Fin 4) : BI.Persistent (leave1 (F := F) d s n j) := by
  unfold leave1; infer_instance

/-! ## The device's own half -/

theorem own_half (b : Fin 4) (O : CellTallies nD τ sig (Fin 2)) (hO : Above 0 O) :
    iprop(flying (F := F) c 1 ∗ Know X W κ σ ∗ owing c O ∗ atPos ER (copyCell c 1) b.val ∅ 0 ∗ oBatch (F := F) c b ∗ wHeld W c)
      ⊢ WP c (ownHalf (F := F) c b) (fun _ => iprop(oOwn X W c b ∗ wHeld W c ∗ srcs X c b 1 ∗ halfAny (F := F) c 1 ∗ owing c O
          ∗ atPos ER (copyCell c 1) (b.val + 1) ∅ 0 ∗ reached ER (copyCell c 1) (b.val + 1))) := by
  unfold ownHalf
  iintro ⟨Hf, #HK, HO, Hat, Hb, Hw⟩
  iapply (WP_seq c (wait_all X W κ σ c b 1 O hO))
  isplitl [Hf HO Hat]
  · isplitl [Hf]; · iexact Hf
    isplitr; · iexact HK
    isplitl [HO]; · iexact HO
    iexact Hat
  iintro %_ ⟨Hh, Hs, HO, Hat, Hr⟩
  iapply (WP_seq c (loadX_one X c b 1))
  isplitl [Hh]; · iexact Hh
  iintro %x ⟨%hx, Hh⟩
  subst hx
  ihave Hp := (WP_rep c 4 (ownChunk (F := F) b (rowsV X c b 1)) (fun j => anyOf c (oPart b j)) (fun j => holds c (oPart b j) (chunkV X W c b 1 j))
    (fun _ => wHeld W c) (fun j => own_one W c b (rowsV X c b 1) j)) $$ [Hb Hw]
  · isplitl [Hb]; · unfold oBatch; iexact Hb
    iexact Hw
  iapply wp_wand $$ Hp
  iintro %_ ⟨Hb, Hw⟩
  isplitl [Hb]; · unfold oOwn; iexact Hb
  isplitl [Hw]; · iexact Hw
  isplitl [Hs]; · iexact Hs
  isplitl [Hh]; · iapply (halfAt_any X c b 1) $$ Hh
  isplitl [HO]; · iexact HO
  isplitl [Hat]; · iexact Hat
  iexact Hr

/-! ## The peer's half -/

/-- What shipping one chunk uses. -/
def shipIn (b j : Fin 4) : sProp 𝕄 :=
  iprop(anyOf c (sPart (slot b) j) ∗ sendToks (F := F) c b j ∗ reached ER (sentCell c (slot b) j) (rnd b).val
    ∗ leave1 (F := F) (peer c) (slot b) (rnd b).val j)

theorem shipIn_all (b : Fin 4) :
    iprop(sSlot (F := F) c (slot b) ∗ sendAll (F := F) c b ∗ sentReached (F := F) c (slot b) (rnd b).val ∗ leave (F := F) (peer c) (slot b) (rnd b).val)
      = bigSep Finset.univ (shipIn (F := F) c b) := by
  unfold sSlot sendAll sentReached leave shipIn
  rw [bigSep_sep', bigSep_sep', bigSep_sep']

theorem owing_step (b j : Fin 4) (O : CellTallies nD τ sig (Fin 2)) :
    owing (F := F) c (O + oweFrom c b j.val) = owing c ((O + oweFrom c b (j.val + 1)) + oweChunk c b j) := by
  rw [oweFrom_step, add_assoc]

theorem ship_one (b j : Fin 4) (O : CellTallies nD τ sig (Fin 2)) :
    iprop(shipIn (F := F) c b j ∗ Know X W κ σ ∗ wHeld W c ∗ owing c (O + oweFrom c b j.val))
      ⊢ WP c (do putChunk (F := F) (slot b) (rowsV X c b 0) j; sendChunk (F := F) c b j)
          (fun _ => iprop(cred (tallyAt (sentCell c (slot b) j) 0 NC) ∗ Know X W κ σ ∗ wHeld W c ∗ owing c (O + oweFrom c b (j.val + 1)))) := by
  unfold shipIn
  rw [owing_step]
  iintro ⟨⟨Hs, Ht, #Hr, #Hl⟩, #HK, Hw, HO⟩
  iapply (WP_seq c (put_one W c (slot b) (rowsV X c b 0) j))
  isplitl [Hs Hw]
  · isplitl [Hs]; · iexact Hs
    iexact Hw
  iintro %_ ⟨Hs, Hw⟩
  ihave Hp := (send_one X W κ σ c b j (O + oweFrom c b (j.val + 1))) $$ [Hs Ht HO]
  · isplitr; · iexact HK
    isplitr; · iexact Hr
    isplitr; · iexact Hl
    isplitl [Hs]; · iexact Hs
    isplitl [Ht]; · iexact Ht
    iexact HO
  iapply wp_wand $$ Hp
  iintro %_ ⟨Hc, HO⟩
  isplitl [Hc]; · iexact Hc
  isplitr; · iexact HK
  isplitl [Hw]; · iexact Hw
  iexact HO

theorem ship_free (b : Fin 4) (O : CellTallies nD τ sig (Fin 2)) (hO : Above 0 (O + oweFrom c b 0)) :
    iprop(flying (F := F) c 0 ∗ Know X W κ σ ∗ owing c (O + oweFrom c b 0) ∗ atPos ER (copyCell c 0) b.val ∅ 0 ∗ wHeld W c
        ∗ sSlot (F := F) c (slot b) ∗ sendAll (F := F) c b ∗ sentReached (F := F) c (slot b) (rnd b).val ∗ leave (F := F) (peer c) (slot b) (rnd b).val)
      ⊢ WP c (shipFree (F := F) c b) (fun _ => iprop(sentCreds (F := F) c (slot b) ∗ wHeld W c ∗ srcs X c b 0 ∗ halfAny (F := F) c 0 ∗ owing c O
          ∗ atPos ER (copyCell c 0) (b.val + 1) ∅ 0 ∗ reached ER (copyCell c 0) (b.val + 1))) := by
  unfold shipFree
  rw [shipIn_all]
  iintro ⟨Hf, #HK, HO, Hat, Hw, Hi⟩
  iapply (WP_seq c (wait_all X W κ σ c b 0 _ hO))
  isplitl [Hf HO Hat]
  · isplitl [Hf]; · iexact Hf
    isplitr; · iexact HK
    isplitl [HO]; · iexact HO
    iexact Hat
  iintro %_ ⟨Hh, Hs, HO, Hat, Hr⟩
  iapply (WP_seq c (loadX_one X c b 0))
  isplitl [Hh]; · iexact Hh
  iintro %x ⟨%hx, Hh⟩
  subst hx
  ihave Hp := (WP_rep c 4 (fun j => do putChunk (F := F) (slot b) (rowsV X c b 0) j; sendChunk (F := F) c b j) (shipIn (F := F) c b)
    (fun j => cred (tallyAt (sentCell c (slot b) j) 0 NC))
    (fun i => iprop(Know X W κ σ ∗ wHeld W c ∗ owing c (O + oweFrom c b i))) (fun j => ship_one X W κ σ c b j O)) $$ [Hi Hw HO]
  · isplitl [Hi]; · iexact Hi
    isplitr; · iexact HK
    isplitl [Hw]; · iexact Hw
    iexact HO
  iapply wp_wand $$ Hp
  iintro %_ ⟨Hc, _, Hw, HO⟩
  isplitl [Hc]; · unfold sentCreds; iexact Hc
  isplitl [Hw]; · iexact Hw
  isplitl [Hs]; · iexact Hs
  isplitl [Hh]; · iapply (halfAt_any X c b 0) $$ Hh
  isplitl [HO]; · rw [oweFrom_end, add_zero]; iexact HO
  isplitl [Hat]; · iexact Hat
  iexact Hr

/-- Wait until the four chunks of a slot have left. -/
theorem sent_all (s : Fin 2) (r : Fin 2) (O : CellTallies nD τ sig (Fin 2)) (hO : Above 0 O) :
    iprop(sentCreds (F := F) c s ∗ sentAt (F := F) c s r.val ∗ Know X W κ σ ∗ owing c O)
      ⊢ WP c (rep 4 (waitSent (F := F) s)) (fun _ => iprop(sSlot (F := F) c s ∗ sentAt (F := F) c s (r.val + 1)
          ∗ sentReached (F := F) c s (r.val + 1) ∗ owing c O)) := by
  have e : iprop(sentCreds (F := F) c s ∗ sentAt (F := F) c s r.val)
      = bigSep Finset.univ fun j : Fin 4 => iprop(cred (tallyAt (sentCell c s j) 0 NC) ∗ atPos ER (sentCell c s j) r.val ∅ 0) := by
    unfold sentCreds sentAt; rw [bigSep_sep']
  have e' : iprop(sSlot (F := F) c s ∗ sentAt (F := F) c s (r.val + 1) ∗ sentReached (F := F) c s (r.val + 1))
      = bigSep Finset.univ fun j : Fin 4 => iprop(anyOf c (sPart s j) ∗ atPos ER (sentCell c s j) (r.val + 1) ∅ 0
          ∗ reached ER (sentCell c s j) (r.val + 1)) := by
    unfold sSlot sentAt sentReached; rw [bigSep_sep', bigSep_sep']
  iintro ⟨Hc, Hat, #HK, HO⟩
  ihave Hp := (WP_rep c 4 (waitSent (F := F) s) (fun j => iprop(cred (tallyAt (sentCell c s j) 0 NC) ∗ atPos ER (sentCell c s j) r.val ∅ 0))
    (fun j => iprop(anyOf c (sPart s j) ∗ atPos ER (sentCell c s j) (r.val + 1) ∅ 0 ∗ reached ER (sentCell c s j) (r.val + 1)))
    (fun _ => iprop(Know X W κ σ ∗ owing c O)) (fun j => sent_one X W κ σ c s j r O hO)) $$ [Hc Hat HO]
  · isplitl [Hc Hat]
    · iapply (Entails.of_eq e)
      isplitl [Hc]; · iexact Hc
      iexact Hat
    isplitr; · iexact HK
    iexact HO
  iapply wp_wand $$ Hp
  iintro %_ ⟨H, _, HO⟩
  ihave H := (Entails.of_eq e'.symm) $$ H
  icases H with ⟨Hs, Hat, Hr⟩
  isplitl [Hs]; · iexact Hs
  isplitl [Hat]; · iexact Hat
  isplitl [Hr]; · iexact Hr
  iexact HO

theorem ship_credit (b : Fin 4) (O : CellTallies nD τ sig (Fin 2)) (hO : Above 0 (O + oweFrom c b 0)) (hb : (rnd b).val = 1) (Pw Qw : sProp 𝕄)
    (hw : iprop(Know X W κ σ ∗ Pw ∗ owing c (O + oweFrom c b 0))
      ⊢ WP c (semWaitWord kSem 1#32 : Code F PUnit) (fun _ => iprop(leave (F := F) (peer c) (slot b) (rnd b).val ∗ Qw ∗ owing c (O + oweFrom c b 0)))) :
    iprop(flying (F := F) c 0 ∗ Know X W κ σ ∗ owing c (O + oweFrom c b 0) ∗ atPos ER (copyCell c 0) b.val ∅ 0 ∗ wHeld W c
        ∗ sentCreds (F := F) c (slot b) ∗ sentAt (F := F) c (slot b) 0 ∗ sendAll (F := F) c b ∗ Pw)
      ⊢ WP c (shipCredit (F := F) c b) (fun _ => iprop(sentCreds (F := F) c (slot b) ∗ sentAt (F := F) c (slot b) 1 ∗ Qw
          ∗ wHeld W c ∗ srcs X c b 0 ∗ halfAny (F := F) c 0 ∗ owing c O
          ∗ atPos ER (copyCell c 0) (b.val + 1) ∅ 0 ∗ reached ER (copyCell c 0) (b.val + 1))) := by
  unfold shipCredit
  iintro ⟨Hf, #HK, HO, Hat, Hw, Hc, Hsat, Ht, HP⟩
  iapply (WP_seq c (wait_all X W κ σ c b 0 _ hO))
  isplitl [Hf HO Hat]
  · isplitl [Hf]; · iexact Hf
    isplitr; · iexact HK
    isplitl [HO]; · iexact HO
    iexact Hat
  iintro %_ ⟨Hh, Hs, HO, Hat, Hr⟩
  iapply (WP_seq c (sent_all X W κ σ c (slot b) 0 _ hO))
  isplitl [Hc Hsat HO]
  · isplitl [Hc]; · iexact Hc
    isplitl [Hsat]; · iexact Hsat
    isplitr; · iexact HK
    iexact HO
  iintro %_ ⟨Hsl, Hsat, #Hsr, HO⟩
  iapply (WP_seq c (loadX_one X c b 0))
  isplitl [Hh]; · iexact Hh
  iintro %x ⟨%hx, Hh⟩
  subst hx
  ihave Hsl := (Entails.of_eq (show sSlot (F := F) c (slot b) = iprop(anyOf c (sPart (slot b) 0) ∗ bigSep Finset.univ fun j : Fin 3 => anyOf c (sPart (slot b) j.succ)) from by
    unfold sSlot; rw [sep_fin_succ])) $$ Hsl
  icases Hsl with ⟨Hs0, Hsl⟩
  iapply (WP_seq c (put_one W c (slot b) (rowsV X c b 0) 0))
  isplitl [Hs0 Hw]
  · isplitl [Hs0]; · iexact Hs0
    iexact Hw
  iintro %_ ⟨Hs0, Hw⟩
  iapply (WP_seq c hw)
  isplitl [HP HO]
  · isplitr; · iexact HK
    isplitl [HP]; · iexact HP
    iexact HO
  iintro %_ ⟨#Hl, HQ, HO⟩
  ihave Ht := (Entails.of_eq (show sendAll (F := F) c b = iprop(sendToks (F := F) c b 0 ∗ bigSep Finset.univ fun j : Fin 3 => sendToks (F := F) c b j.succ) from by
    unfold sendAll; rw [sep_fin_succ])) $$ Ht
  icases Ht with ⟨Ht0, Ht⟩
  ihave #Hsr1 := (Entails.of_eq (show sentReached (F := F) c (slot b) ((0 : Fin 2).val + 1) = iprop(reached ER (sentCell c (slot b) 0) (rnd b).val
      ∗ bigSep Finset.univ fun j : Fin 3 => reached ER (sentCell c (slot b) j.succ) (rnd b).val) from by
    unfold sentReached; rw [hb, sep_fin_succ]; rfl)) $$ Hsr
  icases Hsr1 with ⟨#Hsr0, #Hsrs⟩
  ihave #Hl1 := (Entails.of_eq (show leave (F := F) (peer c) (slot b) (rnd b).val = iprop(leave1 (F := F) (peer c) (slot b) (rnd b).val 0
      ∗ bigSep Finset.univ fun j : Fin 3 => leave1 (F := F) (peer c) (slot b) (rnd b).val j.succ) from by
    unfold leave; rw [sep_fin_succ])) $$ Hl
  icases Hl1 with ⟨#Hl0, #Hls⟩
  iapply (WP_seq c (send_one X W κ σ c b 0 (O + oweFrom c b 1)))
  isplitl [Hs0 Ht0 HO]
  · isplitr; · iexact HK
    isplitr; · iexact Hsr0
    isplitr; · iexact Hl0
    isplitl [Hs0]; · iexact Hs0
    isplitl [Ht0]; · iexact Ht0
    iapply (Entails.of_eq (show owing (F := F) c (O + oweFrom c b 0) = owing c ((O + oweFrom c b 1) + oweChunk c b 0) from owing_step (F := F) c b 0 O)) $$ HO
  iintro %_ ⟨Hc0, HO⟩
  ihave Hp := (WP_rep c 3 (fun j => do putChunk (F := F) (slot b) (rowsV X c b 0) j.succ; sendChunk (F := F) c b j.succ) (fun j => shipIn (F := F) c b j.succ)
    (fun j => cred (tallyAt (sentCell c (slot b) j.succ) 0 NC))
    (fun i => iprop(Know X W κ σ ∗ wHeld W c ∗ owing c (O + oweFrom c b (i + 1)))) (fun j => ship_one X W κ σ c b j.succ O)) $$ [Hsl Ht Hw HO]
  · isplitl [Hsl Ht]
    · iapply (Entails.of_eq (show iprop((bigSep Finset.univ fun j : Fin 3 => anyOf c (sPart (slot b) j.succ))
          ∗ (bigSep Finset.univ fun j : Fin 3 => sendToks (F := F) c b j.succ)
          ∗ (bigSep Finset.univ fun j : Fin 3 => reached ER (sentCell c (slot b) j.succ) (rnd b).val)
          ∗ (bigSep Finset.univ fun j : Fin 3 => leave1 (F := F) (peer c) (slot b) (rnd b).val j.succ))
          = bigSep Finset.univ fun j : Fin 3 => shipIn (F := F) c b j.succ from by unfold shipIn; rw [bigSep_sep', bigSep_sep', bigSep_sep']))
      isplitl [Hsl]; · iexact Hsl
      isplitl [Ht]; · iexact Ht
      isplitr; · iexact Hsrs
      iexact Hls
    isplitr; · iexact HK
    isplitl [Hw]; · iexact Hw
    iexact HO
  iapply wp_wand $$ Hp
  iintro %_ ⟨Hc, _, Hw, HO⟩
  isplitl [Hc Hc0]
  · iapply (Entails.of_eq (show iprop(cred (tallyAt (sentCell c (slot b) 0) 0 NC) ∗ bigSep Finset.univ fun j : Fin 3 => cred (tallyAt (sentCell c (slot b) j.succ) 0 NC))
      = sentCreds (F := F) c (slot b) from by unfold sentCreds; exact (sep_fin_succ (fun j : Fin 4 => (cred (tallyAt (sentCell c (slot b) j) 0 NC) : sProp 𝕄))).symm))
    isplitl [Hc0]; · iexact Hc0
    iexact Hc
  isplitl [Hsat]; · iexact Hsat
  isplitl [HQ]; · iexact HQ
  isplitl [Hw]; · iexact Hw
  isplitl [Hs]; · iexact Hs
  isplitl [Hh]; · iapply (halfAt_any X c b 0) $$ Hh
  isplitl [HO]; · rw [show 3 + 1 = 4 from rfl, oweFrom_end, add_zero]; iexact HO
  isplitl [Hat]; · iexact Hat
  iexact Hr

/-! ## Receiving and adding -/

theorem add_all (b : Fin 4) (O : CellTallies nD τ sig (Fin 2)) (hO : Above (if rnd b = 0 then 2 else 5) O) :
    iprop(oOwn X W c b ∗ recvCreds (F := F) c b ∗ recvAt (F := F) c (slot b) (rnd b).val ∗ Know X W κ σ ∗ owing c O)
      ⊢ WP c (rep 4 (addChunk (F := F) b)) (fun _ => iprop(oDone X W c b ∗ rSlot (F := F) c (slot b) ∗ recvAt (F := F) c (slot b) ((rnd b).val + 1)
          ∗ recvReached (F := F) c (slot b) ((rnd b).val + 1) ∗ owing c O)) := by
  have e : iprop(oOwn X W c b ∗ recvCreds (F := F) c b ∗ recvAt (F := F) c (slot b) (rnd b).val)
      = bigSep Finset.univ fun j : Fin 4 => iprop(holds c (oPart b j) (chunkV X W c b 1 j) ∗ cred (tallyAt (recvCell c (slot b) j) (rnd b) NC)
          ∗ atPos ER (recvCell c (slot b) j) (rnd b).val ∅ 0) := by
    unfold oOwn recvCreds recvAt; rw [bigSep_sep', bigSep_sep']
  have e' : iprop(oDone X W c b ∗ rSlot (F := F) c (slot b) ∗ recvAt (F := F) c (slot b) ((rnd b).val + 1)
          ∗ recvReached (F := F) c (slot b) ((rnd b).val + 1))
      = bigSep Finset.univ fun j : Fin 4 => iprop(holds c (oPart b j) (outV X W c b j) ∗ anyOf c (rPart (slot b) j)
          ∗ atPos ER (recvCell c (slot b) j) ((rnd b).val + 1) ∅ 0 ∗ reached ER (recvCell c (slot b) j) ((rnd b).val + 1)) := by
    unfold oDone rSlot recvAt recvReached; rw [bigSep_sep', bigSep_sep', bigSep_sep']
  iintro ⟨Ho, Hc, Hat, #HK, HO⟩
  ihave Hp := (WP_rep c 4 (addChunk (F := F) b) (fun j => iprop(holds c (oPart b j) (chunkV X W c b 1 j) ∗ cred (tallyAt (recvCell c (slot b) j) (rnd b) NC)
          ∗ atPos ER (recvCell c (slot b) j) (rnd b).val ∅ 0))
    (fun j => iprop(holds c (oPart b j) (outV X W c b j) ∗ anyOf c (rPart (slot b) j)
          ∗ atPos ER (recvCell c (slot b) j) ((rnd b).val + 1) ∅ 0 ∗ reached ER (recvCell c (slot b) j) ((rnd b).val + 1)))
    (fun _ => iprop(Know X W κ σ ∗ owing c O)) (fun j => add_one X W κ σ c b j O hO)) $$ [Ho Hc Hat HO]
  · isplitl [Ho Hc Hat]
    · iapply (Entails.of_eq e)
      isplitl [Ho]; · iexact Ho
      isplitl [Hc]; · iexact Hc
      iexact Hat
    isplitr; · iexact HK
    iexact HO
  iapply wp_wand $$ Hp
  iintro %_ ⟨H, _, HO⟩
  ihave H := (Entails.of_eq e'.symm) $$ H
  icases H with ⟨Ho, Hs, Hat, Hr⟩
  isplitl [Ho]; · iexact Ho
  isplitl [Hs]; · iexact Hs
  isplitl [Hat]; · iexact Hat
  isplitl [Hr]; · iexact Hr
  iexact HO

end Cert.KernelIdeal.OProj

end
-- ==== Proof.Body.lean ====
/- The body of the kernel on one device: what it starts from and what it leaves. -/
module

public import proofs.«01_k».proof.Proof.Segments

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (X : Dev nD → Vec F S4x1024x16x128 .f32) (W : Dev nD → Vec F S2048x4096 .bf16)
variable (κ : GSem nD τ sig → ℕ) (σ : Key → ℕ) (c : Dev nD)

/-! ## The parts, at given counts -/

theorem start_at (b : Fin 4) (a : Fin 2) (n : ℕ) (hn : b.val = n) :
    iprop(srcs X c b a ∗ halfAny (F := F) c a ∗ copyToks (F := F) c b a ∗ Know X W κ σ ∗ reached ER (copyCell c a) n)
      ⊢ WP c (rep 16 (startX (F := F) c b a)) (fun _ => flying (F := F) c a) := by
  subst hn; exact start_all X W κ σ c b a

theorem meet_at :
    iprop(Know X W κ σ ∗ reached ER (barCell (peer c)) 0 ∗ dutyTok ER (barCell (peer c)) 0 0
        ∗ barPay (F := F) (peer c) ∗ cred (tallyAt (barCell c) 0 1) ∗ atPos ER (barCell c) 0 ∅ 0 ∗ owing c (oweAll c))
      ⊢ WP c (barrier (F := F) c) (fun _ => iprop(barPay (F := F) c ∗ atPos ER (barCell c) 1 ∅ 0 ∗ owing c (owe0 c))) :=
  meet X W κ σ c (owe0 c) (above_owe0 c)

theorem free_at (b : Fin 4) (s : Fin 2) (n n' : ℕ) (O O₀ : CellTallies nD τ sig (Fin 2)) (hO : Above 0 O₀) (h₀ : O₀ = O + oweFrom c b 0)
    (hs : slot b = s) (hr : (rnd b).val = 0) (hn : b.val = n) (hn' : n + 1 = n') :
    iprop(flying (F := F) c 0 ∗ Know X W κ σ ∗ owing c O₀ ∗ atPos ER (copyCell c 0) n ∅ 0 ∗ wHeld W c
        ∗ sSlot (F := F) c s ∗ sendAll (F := F) c b ∗ sentReached (F := F) c s 0 ∗ leave (F := F) (peer c) s 0)
      ⊢ WP c (shipFree (F := F) c b) (fun _ => iprop(sentCreds (F := F) c s ∗ wHeld W c ∗ srcs X c b 0 ∗ halfAny (F := F) c 0 ∗ owing c O
          ∗ atPos ER (copyCell c 0) n' ∅ 0 ∗ reached ER (copyCell c 0) n')) := by
  subst h₀ hs hn hn'
  have h := ship_free X W κ σ c b O hO
  rw [hr] at h; exact h

theorem own_at (b : Fin 4) (n n' : ℕ) (O : CellTallies nD τ sig (Fin 2)) (hO : Above 0 O) (hn : b.val = n) (hn' : n + 1 = n') :
    iprop(flying (F := F) c 1 ∗ Know X W κ σ ∗ owing c O ∗ atPos ER (copyCell c 1) n ∅ 0 ∗ oBatch (F := F) c b ∗ wHeld W c)
      ⊢ WP c (ownHalf (F := F) c b) (fun _ => iprop(oOwn X W c b ∗ wHeld W c ∗ srcs X c b 1 ∗ halfAny (F := F) c 1 ∗ owing c O
          ∗ atPos ER (copyCell c 1) n' ∅ 0 ∗ reached ER (copyCell c 1) n')) := by
  subst hn hn'; exact own_half X W κ σ c b O hO

theorem add_at (b : Fin 4) (s : Fin 2) (r r' : ℕ) (O : CellTallies nD τ sig (Fin 2)) (hO : Above (if rnd b = 0 then 2 else 5) O)
    (hs : slot b = s) (hr : (rnd b).val = r) (hr' : r + 1 = r') :
    iprop(oOwn X W c b ∗ recvCreds (F := F) c b ∗ recvAt (F := F) c s r ∗ Know X W κ σ ∗ owing c O)
      ⊢ WP c (rep 4 (addChunk (F := F) b)) (fun _ => iprop(oDone X W c b ∗ rSlot (F := F) c s ∗ recvAt (F := F) c s r'
          ∗ recvReached (F := F) c s r' ∗ owing c O)) := by
  subst hs hr hr'; exact add_all X W κ σ c b O hO

theorem sent_at (s : Fin 2) (O : CellTallies nD τ sig (Fin 2)) (hO : Above 0 O) :
    iprop(sentCreds (F := F) c s ∗ sentAt (F := F) c s 1 ∗ Know X W κ σ ∗ owing c O)
      ⊢ WP c (rep 4 (waitSent (F := F) s)) (fun _ => iprop(sSlot (F := F) c s ∗ sentAt (F := F) c s 2
          ∗ sentReached (F := F) c s 2 ∗ owing c O)) :=
  sent_all X W κ σ c s 1 O hO

theorem give_at (s : Fin 2) (n n' : ℕ) (hn : n + 1 = n') :
    iprop(Know X W κ σ ∗ readers (F := F) c s n ∗ rSlot (F := F) c s ∗ recvReached (F := F) c s n)
      ⊢ |={Set.univ}=> iprop(readers (F := F) c s n' ∗ leave (F := F) c s n) := by
  subst hn; exact give_slot X W κ σ c s n

theorem bar_pay : iprop(leave (F := F) c 0 0 ∗ leave (F := F) c 1 0 ∗ reached ER (creditCell c) 0) ⊢ barPay (F := F) (peer c) := by
  unfold barPay; rw [peer_peer]
  iintro ⟨H, H', Hr⟩
  isplitl [H H']
  · isplitl [H]; · iexact H
    iexact H'
  iexact Hr

theorem credit_pay0 : leave (F := F) c 0 1 ⊢ creditPay (F := F) (peer c) (payNo 0) := by
  rw [show creditPay (F := F) (peer c) (payNo 0) = leave (F := F) (peer (peer c)) 0 1 from if_pos (by decide), peer_peer]

theorem credit_pay1 : iprop(leave (F := F) c 0 1 ∗ leave (F := F) c 1 1) ⊢ creditPay (F := F) (peer c) (payNo 1) := by
  rw [show creditPay (F := F) (peer c) (payNo 1) = iprop(leave (F := F) (peer (peer c)) 0 1 ∗ leave (F := F) (peer (peer c)) 1 1) from if_neg (by decide), peer_peer]

theorem give0_at : iprop(Know X W κ σ ∗ reached ER (creditCell (peer c)) 0 ∗ dutyTok ER (creditCell (peer c)) 0 (payNo 0) ∗ leave (F := F) c 0 1 ∗ owing c (oweK0 c))
      ⊢ WP c (giveCredit (F := F) c 0) (fun _ => owing c (owe2 c)) := by
  have h := give_credit X W κ σ c 0 (owe2 c)
  iintro ⟨#HK, Hr, Ht, Hl, HO⟩
  iapply h
  isplitr; · iexact HK
  isplitl [Hr]; · iexact Hr
  isplitl [Ht]; · iexact Ht
  isplitl [Hl]; · iapply (credit_pay0 c) $$ Hl
  iapply (Entails.of_eq (show owing (F := F) c (oweK0 c) = owing c (owe2 c + oweCredit c 0) from rfl)) $$ HO

theorem give1_at : iprop(Know X W κ σ ∗ reached ER (creditCell (peer c)) 0 ∗ dutyTok ER (creditCell (peer c)) 0 (payNo 1) ∗ leave (F := F) c 0 1
        ∗ leave (F := F) c 1 1 ∗ owing c (oweK1 c))
      ⊢ WP c (giveCredit (F := F) c 1) (fun _ => owing c (owe3 c)) := by
  have h := give_credit X W κ σ c 1 (owe3 c)
  iintro ⟨#HK, Hr, Ht, Hl, Hl', HO⟩
  iapply h
  isplitr; · iexact HK
  isplitl [Hr]; · iexact Hr
  isplitl [Ht]; · iexact Ht
  isplitl [Hl Hl']
  · iapply (credit_pay1 c)
    isplitl [Hl]; · iexact Hl
    iexact Hl'
  iapply (Entails.of_eq (show owing (F := F) c (oweK1 c) = owing c (owe3 c + oweCredit c 1) from rfl)) $$ HO

theorem ship2_at :
    iprop(flying (F := F) c 0 ∗ Know X W κ σ ∗ owing c (owe2 c) ∗ atPos ER (copyCell c 0) 2 ∅ 0 ∗ wHeld W c
        ∗ sentCreds (F := F) c 0 ∗ sentAt (F := F) c 0 0 ∗ sendAll (F := F) c 2 ∗ cred (tallyAt (creditCell c) 0 1) ∗ atPos ER (creditCell c) 0 ∅ 0)
      ⊢ WP c (shipCredit (F := F) c 2) (fun _ => iprop(sentCreds (F := F) c 0 ∗ sentAt (F := F) c 0 1 ∗ halfway (F := F) c
          ∗ wHeld W c ∗ srcs X c 2 0 ∗ halfAny (F := F) c 0 ∗ owing c (oweK1 c)
          ∗ atPos ER (copyCell c 0) 3 ∅ 0 ∗ reached ER (copyCell c 0) 3)) :=
  ship_credit X W κ σ c 2 (oweK1 c) ((above_owe2 c).mono (by decide)) (by decide)
    iprop(cred (tallyAt (creditCell c) 0 1) ∗ atPos ER (creditCell c) 0 ∅ 0) (halfway c) (by
      have h := credit_first X W κ σ c (oweK1 c + oweFrom c 2 0) (above_owe2 c)
      iintro ⟨#HK, ⟨Hc, Hat⟩, HO⟩
      iapply h
      isplitr; · iexact HK
      isplitl [Hc]; · iexact Hc
      isplitl [Hat]; · iexact Hat
      iexact HO)

theorem ship3_at :
    iprop(flying (F := F) c 0 ∗ Know X W κ σ ∗ owing c (owe3 c) ∗ atPos ER (copyCell c 0) 3 ∅ 0 ∗ wHeld W c
        ∗ sentCreds (F := F) c 1 ∗ sentAt (F := F) c 1 0 ∗ sendAll (F := F) c 3 ∗ cred (tallyAt (creditCell c) 1 1) ∗ halfway (F := F) c)
      ⊢ WP c (shipCredit (F := F) c 3) (fun _ => iprop(sentCreds (F := F) c 1 ∗ sentAt (F := F) c 1 1 ∗ atPos ER (creditCell c) 1 ∅ 0
          ∗ wHeld W c ∗ srcs X c 3 0 ∗ halfAny (F := F) c 0 ∗ owing c 0
          ∗ atPos ER (copyCell c 0) 4 ∅ 0 ∗ reached ER (copyCell c 0) 4)) := by
  have e : owe3 c = 0 + oweFrom c 3 0 := (zero_add _).symm
  rw [e]
  exact ship_credit X W κ σ c 3 0 (by rw [← e]; exact (above_owe3 c).mono (by decide)) (by decide)
    iprop(cred (tallyAt (creditCell c) 1 1) ∗ halfway c) (atPos ER (creditCell c) 1 ∅ 0) (by
      have h := credit_second X W κ σ c (0 + oweFrom c 3 0) (by rw [← e]; exact above_owe3 c)
      iintro ⟨#HK, ⟨Hc, Hat⟩, HO⟩
      iapply h
      isplitr; · iexact HK
      isplitl [Hc]; · iexact Hc
      isplitl [Hat]; · iexact Hat
      iexact HO)

/-! ## What the body starts from and what it leaves -/

/-- What reaches the cells of other devices, known from the launch. -/
def Fresh : sProp 𝕄 :=
  iprop(reached ER (barCell (peer c)) 0 ∗ reached ER (creditCell c) 0 ∗ (bigSep Finset.univ fun a : Fin 2 => reached ER (copyCell c a) 0)
    ∗ (bigSep Finset.univ fun s : Fin 2 => sentReached (F := F) c s 0) ∗ (bigSep Finset.univ fun s : Fin 2 => recvReached (F := F) c s 0))

instance fresh_persistent : BI.Persistent (Fresh (F := F) c) := by unfold Fresh; infer_instance

/-- The tokens of the payments a device makes. -/
def Toks : sProp 𝕄 :=
  iprop((bigSep Finset.univ fun b : Fin 4 => bigSep Finset.univ fun a : Fin 2 => copyToks (F := F) c b a)
    ∗ (bigSep Finset.univ fun b : Fin 4 => sendAll (F := F) c b)
    ∗ (bigSep Finset.univ fun s : Fin 2 => dutyTok ER (creditCell (peer c)) 0 (payNo s)) ∗ dutyTok ER (barCell (peer c)) 0 0)

/-- The credits a device waits with. -/
def Creds : sProp 𝕄 :=
  iprop((bigSep Finset.univ fun b : Fin 4 => recvCreds (F := F) c b) ∗ (bigSep Finset.univ fun s : Fin 2 => cred (tallyAt (creditCell c) s 1))
    ∗ cred (tallyAt (barCell c) 0 1))

/-- Where a device stands at its cells. -/
def Stand (n r k : ℕ) : sProp 𝕄 :=
  iprop((bigSep Finset.univ fun a : Fin 2 => atPos ER (copyCell c a) n ∅ 0) ∗ (bigSep Finset.univ fun s : Fin 2 => sentAt (F := F) c s r)
    ∗ (bigSep Finset.univ fun s : Fin 2 => recvAt (F := F) c s r) ∗ atPos ER (creditCell c) k ∅ 0 ∗ atPos ER (barCell c) k ∅ 0)

/-- The buffers that the kernel only passes through. -/
def Space : sProp 𝕄 :=
  iprop((bigSep Finset.univ fun a : Fin 2 => halfAny (F := F) c a) ∗ (bigSep Finset.univ fun s : Fin 2 => sSlot (F := F) c s)
    ∗ (bigSep Finset.univ fun s : Fin 2 => rSlot (F := F) c s))

/-- The whole input, in heads. -/
def Input : sProp 𝕄 := bigSep Finset.univ fun b : Fin 4 => bigSep Finset.univ fun a : Fin 2 => srcs X c b a

theorem four (Φ : Fin 4 → sProp 𝕄) : bigSep Finset.univ Φ = iprop(Φ 0 ∗ Φ 1 ∗ Φ 2 ∗ Φ 3) := by
  rw [sep_fin_succ, sep_fin_succ, bigSep_fin_two]; rfl

theorem two (Φ : Fin 2 → sProp 𝕄) : bigSep Finset.univ Φ = iprop(Φ 0 ∗ Φ 1) := bigSep_fin_two Φ

/-- What the body starts from. -/
def bodyIn : sProp 𝕄 :=
  iprop(Know X W κ σ ∗ Fresh (F := F) c ∗ Input X c ∗ Space (F := F) c ∗ Toks (F := F) c ∗ Creds (F := F) c ∗ Stand (F := F) c 0 0 0
    ∗ (bigSep Finset.univ fun s : Fin 2 => readers (F := F) c s 0) ∗ (bigSep Finset.univ fun b : Fin 4 => oBatch (F := F) c b) ∗ wHeld W c ∗ owing c (oweAll c))

/-- What the body leaves. -/
def bodyOut : sProp 𝕄 :=
  iprop(Input X c ∗ Space (F := F) c ∗ Stand (F := F) c 4 2 1 ∗ (bigSep Finset.univ fun b : Fin 4 => oDone X W c b) ∗ wHeld W c ∗ owing c 0)

theorem body_on : bodyIn X W κ σ c ⊢ WP c (bodyOn (F := F) c) (fun _ => bodyOut X W c) := by
  unfold bodyIn bodyOut Fresh Input Space Toks Creds Stand
  simp only [four, two]
  iintro ⟨#HK, ⟨#Hbr, #Hkr, ⟨#Hcr00, #Hcr10⟩, ⟨#Hsr0, #Hsr1⟩, ⟨#Hrr00, #Hrr10⟩⟩, ⟨⟨Hs00, Hs01⟩, ⟨Hs10, Hs11⟩, ⟨Hs20, Hs21⟩, ⟨Hs30, Hs31⟩⟩, ⟨⟨Hh0, Hh1⟩, ⟨Hss0, Hss1⟩, ⟨Hrs0, Hrs1⟩⟩, ⟨⟨⟨Hct00, Hct01⟩, ⟨Hct10, Hct11⟩, ⟨Hct20, Hct21⟩, ⟨Hct30, Hct31⟩⟩, ⟨Hsa0, Hsa1, Hsa2, Hsa3⟩, ⟨Hkt0, Hkt1⟩, Hbt⟩, ⟨⟨Hrc0, Hrc1, Hrc2, Hrc3⟩, ⟨Hkc0, Hkc1⟩, Hbc⟩, ⟨⟨Hca0, Hca1⟩, ⟨Hsta0, Hsta1⟩, ⟨Hra0, Hra1⟩, Hka, Hba⟩, ⟨Hrd0, Hrd1⟩, ⟨Hb0, Hb1, Hb2, Hb3⟩, Hw, HO⟩
  unfold bodyOn
  iapply (WP_seq c (start_at X W κ σ c 0 0 0 rfl))
  isplitl [Hs00 Hh0 Hct00]
  · isplitl [Hs00]; · iexact Hs00
    isplitl [Hh0]; · iexact Hh0
    isplitl [Hct00]; · iexact Hct00
    isplitr; · iexact HK
    iexact Hcr00
  iintro %_ Hf0
  iapply (WP_seq c (start_at X W κ σ c 0 1 0 rfl))
  isplitl [Hs01 Hh1 Hct01]
  · isplitl [Hs01]; · iexact Hs01
    isplitl [Hh1]; · iexact Hh1
    isplitl [Hct01]; · iexact Hct01
    isplitr; · iexact HK
    iexact Hcr10
  iintro %_ Hf1
  imod (give_at X W κ σ c 0 0 1 rfl) $$ [Hrd0 Hrs0] with ⟨Hrd0, #Hlv00⟩
  · isplitr; · iexact HK
    isplitl [Hrd0]; · iexact Hrd0
    isplitl [Hrs0]; · iexact Hrs0
    iexact Hrr00
  imod (give_at X W κ σ c 1 0 1 rfl) $$ [Hrd1 Hrs1] with ⟨Hrd1, #Hlv10⟩
  · isplitr; · iexact HK
    isplitl [Hrd1]; · iexact Hrd1
    isplitl [Hrs1]; · iexact Hrs1
    iexact Hrr10
  ihave Hbp := (bar_pay (F := F) c) $$ []
  · isplitr; · iexact Hlv00
    isplitr; · iexact Hlv10
    iexact Hkr
  iapply (WP_seq c (meet_at X W κ σ c))
  isplitl [Hbt Hbp Hbc Hba HO]
  · isplitr; · iexact HK
    isplitr; · iexact Hbr
    isplitl [Hbt]; · iexact Hbt
    isplitl [Hbp]; · iexact Hbp
    isplitl [Hbc]; · iexact Hbc
    isplitl [Hba]; · iexact Hba
    iexact HO
  iintro %_ ⟨Hbp, Hba, HO⟩
  unfold barPay
  icases Hbp with ⟨⟨#Hlp0, #Hlp1⟩, #Hkp⟩
  iapply (WP_seq c (free_at X W κ σ c 0 0 0 1 (owe1 c) (owe0 c) ((above_owe0 c).mono (by decide)) rfl rfl rfl rfl rfl))
  isplitl [Hf0 HO Hca0 Hw Hss0 Hsa0]
  · isplitl [Hf0]; · iexact Hf0
    isplitr; · iexact HK
    isplitl [HO]; · iexact HO
    isplitl [Hca0]; · iexact Hca0
    isplitl [Hw]; · iexact Hw
    isplitl [Hss0]; · iexact Hss0
    isplitl [Hsa0]; · iexact Hsa0
    isplitr; · iexact Hsr0
    iexact Hlp0
  iintro %_ ⟨Hsc0, Hw, Hs00, Hh0, HO, Hca0, #Hcr01⟩
  iapply (WP_seq c (start_at X W κ σ c 1 0 1 rfl))
  isplitl [Hs10 Hh0 Hct10]
  · isplitl [Hs10]; · iexact Hs10
    isplitl [Hh0]; · iexact Hh0
    isplitl [Hct10]; · iexact Hct10
    isplitr; · iexact HK
    iexact Hcr01
  iintro %_ Hf0
  iapply (WP_seq c (own_at X W κ σ c 0 0 1 (owe1 c) ((above_owe1 c).mono (by decide)) rfl rfl))
  isplitl [Hf1 HO Hca1 Hb0 Hw]
  · isplitl [Hf1]; · iexact Hf1
    isplitr; · iexact HK
    isplitl [HO]; · iexact HO
    isplitl [Hca1]; · iexact Hca1
    isplitl [Hb0]; · iexact Hb0
    iexact Hw
  iintro %_ ⟨Hb0, Hw, Hs01, Hh1, HO, Hca1, #Hcr11⟩
  iapply (WP_seq c (start_at X W κ σ c 1 1 1 rfl))
  isplitl [Hs11 Hh1 Hct11]
  · isplitl [Hs11]; · iexact Hs11
    isplitl [Hh1]; · iexact Hh1
    isplitl [Hct11]; · iexact Hct11
    isplitr; · iexact HK
    iexact Hcr11
  iintro %_ Hf1
  iapply (WP_seq c (free_at X W κ σ c 1 1 1 2 (oweK0 c) (owe1 c) ((above_owe1 c).mono (by decide)) rfl rfl rfl rfl rfl))
  isplitl [Hf0 HO Hca0 Hw Hss1 Hsa1]
  · isplitl [Hf0]; · iexact Hf0
    isplitr; · iexact HK
    isplitl [HO]; · iexact HO
    isplitl [Hca0]; · iexact Hca0
    isplitl [Hw]; · iexact Hw
    isplitl [Hss1]; · iexact Hss1
    isplitl [Hsa1]; · iexact Hsa1
    isplitr; · iexact Hsr1
    iexact Hlp1
  iintro %_ ⟨Hsc1, Hw, Hs10, Hh0, HO, Hca0, #Hcr02⟩
  iapply (WP_seq c (start_at X W κ σ c 2 0 2 rfl))
  isplitl [Hs20 Hh0 Hct20]
  · isplitl [Hs20]; · iexact Hs20
    isplitl [Hh0]; · iexact Hh0
    isplitl [Hct20]; · iexact Hct20
    isplitr; · iexact HK
    iexact Hcr02
  iintro %_ Hf0
  iapply (WP_seq c (own_at X W κ σ c 1 1 2 (oweK0 c) ((above_oweK0 c).mono (by decide)) rfl rfl))
  isplitl [Hf1 HO Hca1 Hb1 Hw]
  · isplitl [Hf1]; · iexact Hf1
    isplitr; · iexact HK
    isplitl [HO]; · iexact HO
    isplitl [Hca1]; · iexact Hca1
    isplitl [Hb1]; · iexact Hb1
    iexact Hw
  iintro %_ ⟨Hb1, Hw, Hs11, Hh1, HO, Hca1, #Hcr12⟩
  iapply (WP_seq c (start_at X W κ σ c 2 1 2 rfl))
  isplitl [Hs21 Hh1 Hct21]
  · isplitl [Hs21]; · iexact Hs21
    isplitl [Hh1]; · iexact Hh1
    isplitl [Hct21]; · iexact Hct21
    isplitr; · iexact HK
    iexact Hcr12
  iintro %_ Hf1
  iapply (WP_seq c (add_at X W κ σ c 0 0 0 1 (oweK0 c) (above_oweK0 c) rfl rfl rfl))
  isplitl [Hb0 Hrc0 Hra0 HO]
  · isplitl [Hb0]; · iexact Hb0
    isplitl [Hrc0]; · iexact Hrc0
    isplitl [Hra0]; · iexact Hra0
    isplitr; · iexact HK
    iexact HO
  iintro %_ ⟨Hb0, Hrs0, Hra0, #Hrr01, HO⟩
  imod (give_at X W κ σ c 0 1 2 rfl) $$ [Hrd0 Hrs0] with ⟨Hrd0, #Hlv01⟩
  · isplitr; · iexact HK
    isplitl [Hrd0]; · iexact Hrd0
    isplitl [Hrs0]; · iexact Hrs0
    iexact Hrr01
  iapply (WP_seq c (give0_at X W κ σ c))
  isplitl [Hkt0 HO]
  · isplitr; · iexact HK
    isplitr; · iexact Hkp
    isplitl [Hkt0]; · iexact Hkt0
    isplitr; · iexact Hlv01
    iexact HO
  iintro %_ HO
  iapply (WP_seq c (ship2_at X W κ σ c))
  isplitl [Hf0 HO Hca0 Hw Hsc0 Hsta0 Hsa2 Hkc0 Hka]
  · isplitl [Hf0]; · iexact Hf0
    isplitr; · iexact HK
    isplitl [HO]; · iexact HO
    isplitl [Hca0]; · iexact Hca0
    isplitl [Hw]; · iexact Hw
    isplitl [Hsc0]; · iexact Hsc0
    isplitl [Hsta0]; · iexact Hsta0
    isplitl [Hsa2]; · iexact Hsa2
    isplitl [Hkc0]; · iexact Hkc0
    iexact Hka
  iintro %_ ⟨Hsc0, Hsta0, Hka, Hw, Hs20, Hh0, HO, Hca0, #Hcr03⟩
  iapply (WP_seq c (start_at X W κ σ c 3 0 3 rfl))
  isplitl [Hs30 Hh0 Hct30]
  · isplitl [Hs30]; · iexact Hs30
    isplitl [Hh0]; · iexact Hh0
    isplitl [Hct30]; · iexact Hct30
    isplitr; · iexact HK
    iexact Hcr03
  iintro %_ Hf0
  iapply (WP_seq c (own_at X W κ σ c 2 2 3 (oweK1 c) ((above_oweK1 c).mono (by decide)) rfl rfl))
  isplitl [Hf1 HO Hca1 Hb2 Hw]
  · isplitl [Hf1]; · iexact Hf1
    isplitr; · iexact HK
    isplitl [HO]; · iexact HO
    isplitl [Hca1]; · iexact Hca1
    isplitl [Hb2]; · iexact Hb2
    iexact Hw
  iintro %_ ⟨Hb2, Hw, Hs21, Hh1, HO, Hca1, #Hcr13⟩
  iapply (WP_seq c (start_at X W κ σ c 3 1 3 rfl))
  isplitl [Hs31 Hh1 Hct31]
  · isplitl [Hs31]; · iexact Hs31
    isplitl [Hh1]; · iexact Hh1
    isplitl [Hct31]; · iexact Hct31
    isplitr; · iexact HK
    iexact Hcr13
  iintro %_ Hf1
  iapply (WP_seq c (add_at X W κ σ c 1 1 0 1 (oweK1 c) ((above_oweK1 c).mono (by decide)) rfl rfl rfl))
  isplitl [Hb1 Hrc1 Hra1 HO]
  · isplitl [Hb1]; · iexact Hb1
    isplitl [Hrc1]; · iexact Hrc1
    isplitl [Hra1]; · iexact Hra1
    isplitr; · iexact HK
    iexact HO
  iintro %_ ⟨Hb1, Hrs1, Hra1, #Hrr11, HO⟩
  imod (give_at X W κ σ c 1 1 2 rfl) $$ [Hrd1 Hrs1] with ⟨Hrd1, #Hlv11⟩
  · isplitr; · iexact HK
    isplitl [Hrd1]; · iexact Hrd1
    isplitl [Hrs1]; · iexact Hrs1
    iexact Hrr11
  iapply (WP_seq c (give1_at X W κ σ c))
  isplitl [Hkt1 HO]
  · isplitr; · iexact HK
    isplitr; · iexact Hkp
    isplitl [Hkt1]; · iexact Hkt1
    isplitr; · iexact Hlv01
    isplitr; · iexact Hlv11
    iexact HO
  iintro %_ HO
  iapply (WP_seq c (ship3_at X W κ σ c))
  isplitl [Hf0 HO Hca0 Hw Hsc1 Hsta1 Hsa3 Hkc1 Hka]
  · isplitl [Hf0]; · iexact Hf0
    isplitr; · iexact HK
    isplitl [HO]; · iexact HO
    isplitl [Hca0]; · iexact Hca0
    isplitl [Hw]; · iexact Hw
    isplitl [Hsc1]; · iexact Hsc1
    isplitl [Hsta1]; · iexact Hsta1
    isplitl [Hsa3]; · iexact Hsa3
    isplitl [Hkc1]; · iexact Hkc1
    iexact Hka
  iintro %_ ⟨Hsc1, Hsta1, Hka, Hw, Hs30, Hh0, HO, Hca0, #Hcr04⟩
  iapply (WP_seq c (own_at X W κ σ c 3 3 4 0 (Above.zero 0) rfl rfl))
  isplitl [Hf1 HO Hca1 Hb3 Hw]
  · isplitl [Hf1]; · iexact Hf1
    isplitr; · iexact HK
    isplitl [HO]; · iexact HO
    isplitl [Hca1]; · iexact Hca1
    isplitl [Hb3]; · iexact Hb3
    iexact Hw
  iintro %_ ⟨Hb3, Hw, Hs31, Hh1, HO, Hca1, #Hcr14⟩
  iapply (WP_seq c (add_at X W κ σ c 2 0 1 2 0 (Above.zero _) rfl rfl rfl))
  isplitl [Hb2 Hrc2 Hra0 HO]
  · isplitl [Hb2]; · iexact Hb2
    isplitl [Hrc2]; · iexact Hrc2
    isplitl [Hra0]; · iexact Hra0
    isplitr; · iexact HK
    iexact HO
  iintro %_ ⟨Hb2, Hrs0, Hra0, #Hrr02, HO⟩
  iapply (WP_seq c (add_at X W κ σ c 3 1 1 2 0 (Above.zero _) rfl rfl rfl))
  isplitl [Hb3 Hrc3 Hra1 HO]
  · isplitl [Hb3]; · iexact Hb3
    isplitl [Hrc3]; · iexact Hrc3
    isplitl [Hra1]; · iexact Hra1
    isplitr; · iexact HK
    iexact HO
  iintro %_ ⟨Hb3, Hrs1, Hra1, #Hrr12, HO⟩
  iapply (WP_seq c (sent_at X W κ σ c 0 0 (Above.zero 0)))
  isplitl [Hsc0 Hsta0 HO]
  · isplitl [Hsc0]; · iexact Hsc0
    isplitl [Hsta0]; · iexact Hsta0
    isplitr; · iexact HK
    iexact HO
  iintro %_ ⟨Hss0, Hsta0, -, HO⟩
  ihave Hp := (sent_at X W κ σ c 1 0 (Above.zero 0)) $$ [Hsc1 Hsta1 HO]
  · isplitl [Hsc1]; · iexact Hsc1
    isplitl [Hsta1]; · iexact Hsta1
    isplitr; · iexact HK
    iexact HO
  iapply wp_wand $$ Hp
  iintro %_ ⟨Hss1, Hsta1, -, HO⟩
  isplitl [Hs00 Hs01 Hs10 Hs11 Hs20 Hs21 Hs30 Hs31]
  · isplitl [Hs00 Hs01]
    · isplitl [Hs00]
      · iexact Hs00
      iexact Hs01
    isplitl [Hs10 Hs11]
    · isplitl [Hs10]
      · iexact Hs10
      iexact Hs11
    isplitl [Hs20 Hs21]
    · isplitl [Hs20]
      · iexact Hs20
      iexact Hs21
    isplitl [Hs30]
    · iexact Hs30
    iexact Hs31
  isplitl [Hh0 Hh1 Hss0 Hss1 Hrs0 Hrs1]
  · isplitl [Hh0 Hh1]
    · isplitl [Hh0]
      · iexact Hh0
      iexact Hh1
    isplitl [Hss0 Hss1]
    · isplitl [Hss0]
      · iexact Hss0
      iexact Hss1
    isplitl [Hrs0]
    · iexact Hrs0
    iexact Hrs1
  isplitl [Hca0 Hca1 Hsta0 Hsta1 Hra0 Hra1 Hka Hba]
  · isplitl [Hca0 Hca1]
    · isplitl [Hca0]
      · iexact Hca0
      iexact Hca1
    isplitl [Hsta0 Hsta1]
    · isplitl [Hsta0]
      · iexact Hsta0
      iexact Hsta1
    isplitl [Hra0 Hra1]
    · isplitl [Hra0]
      · iexact Hra0
      iexact Hra1
    isplitl [Hka]
    · iexact Hka
    iexact Hba
  isplitl [Hb0 Hb1 Hb2 Hb3]
  · isplitl [Hb0]
    · iexact Hb0
    isplitl [Hb1]
    · iexact Hb1
    isplitl [Hb2]
    · iexact Hb2
    iexact Hb3
  isplitl [Hw]
  · iexact Hw
  iexact HO

end Cert.KernelIdeal.OProj

end
-- ==== Proof.Split.lean ====
/- Whole buffers and the parts of them that the kernel uses, each turned into the other. -/
module

public import proofs.«01_k».proof.Proof.Body
public import Idealize.ShloMosaic.Lib.ViewIndex

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (X : Dev nD → Vec F S4x1024x16x128 .f32) (W : Dev nD → Vec F S2048x4096 .bf16) (c : Dev nD)

/-! ## The input -/

theorem srcAt_eq (b : Fin 4) (a : Fin 2) (h : Fin 16) :
    srcAt X c b a h = ((c : Thread nD τ).loc main_arg0 ↦[(srcR c b a h).set]{fullShare} X c : sProp 𝕄) := by
  show ((c : Thread nD τ).loc main_arg0 ↦[(xSrc c b a h).view.set]{fullShare} X c : sProp 𝕄) = _
  rw [src_set]

/-- The whole input is its heads. -/
theorem input_eq : ((c : Thread nD τ).loc main_arg0 ↦{fullShare} X c : sProp 𝕄) = Input X c := by
  refine (Ring.pointsTo_blocks (ℓ := (c : Thread nD τ).loc main_arg0) (fun p : Fin 4 × Fin 2 × Fin 16 => (srcR c p.1 p.2.1 p.2.2).set)
    (src_disj c) (src_union c) (q := fullShare) (X c)).trans ?_
  unfold Input srcs
  rw [bigSep_univ_prod]
  refine bigSep_congr fun b _ => ?_
  rw [bigSep_univ_prod]
  exact bigSep_congr fun a _ => bigSep_congr fun h _ => (srcAt_eq X c b a h).symm

/-! ## The scratch buffers -/

theorem sPart_eq (s : Fin 2) (j : Fin 4) : (anyOf c (sPart s j) : sProp 𝕄) = Release.slot ((c : Thread nD τ).loc cc0_scratch1) (chunkR s j).set := by
  show (Release.slot ((c : Thread nD τ).loc cc0_scratch1) (sA.access (chunkR s j)).set : sProp 𝕄) = _
  rw [sent_set]
theorem rPart_eq (s : Fin 2) (j : Fin 4) : (anyOf c (rPart s j) : sProp 𝕄) = Release.slot ((c : Thread nD τ).loc cc0_scratch2) (chunkR s j).set := by
  show (Release.slot ((c : Thread nD τ).loc cc0_scratch2) (rA.access (chunkR s j)).set : sProp 𝕄) = _
  rw [recv_set]

/-- A buffer at some contents is its blocks at some contents. -/
theorem cut_any {ℓ : Loc nD τ sig} {B : Type} [Fintype B] [DecidableEq B] (I : B → Finset (Idx ℓ)) (hd : ∀ b b', b ≠ b' → Disjoint (I b) (I b'))
    (hc : Finset.univ.biUnion I = Finset.univ) :
    (iprop(∃ f : Buf (Elt F) ℓ, ℓ ↦{fullShare} f) : sProp 𝕄) ⊢ bigSep Finset.univ fun b => Release.slot ℓ (I b) := by
  unfold Release.slot
  iintro ⟨%f, H⟩
  ihave H' := (Entails.of_eq (Ring.pointsTo_blocks I hd hc (q := fullShare) f)) $$ H
  iapply (sep_mono_at (s := Finset.univ) (Φ := fun b => (ℓ ↦[I b]{fullShare} f : sProp 𝕄))
    (fun b _ => (by
      iintro H
      iexists f
      iexact H))) $$ H'

theorem join_any {ℓ : Loc nD τ sig} (f₀ : Buf (Elt F) ℓ) {B : Type} [Fintype B] [DecidableEq B] (I : B → Finset (Idx ℓ)) (hd : ∀ b b', b ≠ b' → Disjoint (I b) (I b'))
    (hc : Finset.univ.biUnion I = Finset.univ) :
    (bigSep Finset.univ fun b => Release.slot ℓ (I b)) ⊢ (iprop(∃ f : Buf (Elt F) ℓ, ℓ ↦{fullShare} f) : sProp 𝕄) :=
  Ring.pointsTo_blocks_join_exists I hd hc f₀

/-- The three scratch buffers, whole at some contents. -/
def Scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

theorem halves_eq : (bigSep Finset.univ fun a : Fin 2 => halfAny (F := F) c a)
    = bigSep Finset.univ fun a : Fin 2 => Release.slot (tLoc c) (halfR a).set := bigSep_congr fun a _ => halfAny_eq c a
theorem sSlots_eq : (bigSep Finset.univ fun s : Fin 2 => sSlot (F := F) c s)
    = bigSep Finset.univ fun p : Fin 2 × Fin 4 => Release.slot ((c : Thread nD τ).loc cc0_scratch1) (chunkR p.1 p.2).set := by
  unfold sSlot; rw [bigSep_univ_prod]
  exact bigSep_congr fun s _ => bigSep_congr fun j _ => sPart_eq c s j
theorem rSlots_eq : (bigSep Finset.univ fun s : Fin 2 => rSlot (F := F) c s)
    = bigSep Finset.univ fun p : Fin 2 × Fin 4 => Release.slot ((c : Thread nD τ).loc cc0_scratch2) (chunkR p.1 p.2).set := by
  unfold rSlot; rw [bigSep_univ_prod]
  exact bigSep_congr fun s _ => bigSep_congr fun j _ => rPart_eq c s j

theorem space_of : Scratch (F := F) c ⊢ Space (F := F) c := by
  unfold Scratch Space
  rw [halves_eq, sSlots_eq, rSlots_eq]
  iintro ⟨H0, H1, H2⟩
  isplitl [H0]; · iapply (cut_any (ℓ := tLoc c) (fun a : Fin 2 => (halfR a).set) half_disj half_union) $$ H0
  isplitl [H1]; · iapply (cut_any (ℓ := (c : Thread nD τ).loc cc0_scratch1) (fun p : Fin 2 × Fin 4 => (chunkR p.1 p.2).set) chunk_disj chunk_union) $$ H1
  iapply (cut_any (ℓ := (c : Thread nD τ).loc cc0_scratch2) (fun p : Fin 2 × Fin 4 => (chunkR p.1 p.2).set) chunk_disj chunk_union) $$ H2

include X W in
theorem of_space : Space (F := F) c ⊢ Scratch (F := F) c := by
  unfold Scratch Space
  rw [halves_eq, sSlots_eq, rSlots_eq]
  iintro ⟨H0, H1, H2⟩
  isplitl [H0]; · iapply (join_any (ℓ := tLoc c) (fun i => tileV X c 0 i) (fun a : Fin 2 => (halfR a).set) half_disj half_union) $$ H0
  isplitl [H1]
  · iapply (join_any (ℓ := (c : Thread nD τ).loc cc0_scratch1) (fun _ => chunkV X W c 0 0 0 z0) (fun p : Fin 2 × Fin 4 => (chunkR p.1 p.2).set) chunk_disj chunk_union) $$ H1
  iapply (join_any (ℓ := (c : Thread nD τ).loc cc0_scratch2) (fun _ => chunkV X W c 0 0 0 z0) (fun p : Fin 2 × Fin 4 => (chunkR p.1 p.2).set) chunk_disj chunk_union) $$ H2

/-! ## The result -/

/-- The staged result's buffer. -/
abbrev oLoc : Loc nD τ sig := oA.view.loc (c : Thread nD τ)

theorem oPart_eq (b j : Fin 4) : (anyOf c (oPart b j) : sProp 𝕄) = Release.slot (oLoc c) (outR b j).set := by
  show (Release.slot (oLoc c) (oA.access (outR b j)).set : sProp 𝕄) = _
  rw [out_set]

theorem batches_of : (iprop(∃ f : Buf (Elt F) (oLoc c), (oLoc c) ↦{fullShare} f) : sProp 𝕄)
    ⊢ bigSep Finset.univ fun b : Fin 4 => oBatch (F := F) c b := by
  rw [show (bigSep Finset.univ fun b : Fin 4 => oBatch (F := F) c b)
      = bigSep Finset.univ fun p : Fin 4 × Fin 4 => Release.slot (oLoc c) (outR p.1 p.2).set from by
    unfold oBatch; rw [bigSep_univ_prod]
    exact bigSep_congr fun b _ => bigSep_congr fun j _ => oPart_eq c b j]
  exact cut_any (ℓ := oLoc c) (fun p : Fin 4 × Fin 4 => (outR p.1 p.2).set) outR_disj outR_union

/-- The whole result. -/
def outAll : Vec F S4x512x4096 .bf16 := fun i =>
  outV X W c (i 0) ⟨(i 2).val / 1024, by have h : (i 2).val < 4096 := (i 2).isLt; omega⟩
    (ix3 0 (i 1) ⟨(i 2).val % 1024, Nat.mod_lt _ (by decide)⟩)

theorem oPart_read (b j : Fin 4) : (oPart b j).read (Elt F) (outAll X W c) = outV X W c b j := by
  funext y
  show outAll X W c ((outR b j).emb y) = _
  have h0 : (y 0).val < 1 := (y 0).isLt
  have h1 : (y 1).val < 512 := (y 1).isLt
  have h2 : (y 2).val < 1024 := (y 2).isLt
  have e0 : ((outR b j).emb y 0).val = b.val + 1 * (y 0).val := rfl
  have e1 : ((outR b j).emb y 1).val = 0 + 1 * (y 1).val := rfl
  have e2 : ((outR b j).emb y 2).val = 1024 * j.val + 1 * (y 2).val := rfl
  unfold outAll
  have f0 : ((outR b j).emb y 0 : Fin 4) = b := Fin.ext (by omega)
  have f2 : (⟨((outR b j).emb y 2).val / 1024, by have h : ((outR b j).emb y 2).val < 4096 := ((outR b j).emb y 2).isLt; omega⟩ : Fin 4) = j :=
    Fin.ext (by show ((outR b j).emb y 2).val / 1024 = j.val; omega)
  have f : (ix3 0 ((outR b j).emb y 1) ⟨((outR b j).emb y 2).val % 1024, Nat.mod_lt _ (by decide)⟩ : S1x512x1024.Idx) = y := by
    funext k
    match k with
    | 0 => exact Fin.ext (by show 0 = (y 0).val; omega)
    | 1 => exact Fin.ext (by show ((outR b j).emb y 1).val = (y 1).val; omega)
    | 2 => exact Fin.ext (by show ((outR b j).emb y 2).val % 1024 = (y 2).val; omega)
  rw [f]
  exact congrFun (congrArg₂ (outV X W c) f0 f2) y

theorem done_at (b j : Fin 4) : holds c (oPart b j) (outV X W c b j) ⊢ (oLoc c ↦[(outR b j).set]{fullShare} outAll X W c : sProp 𝕄) := by
  unfold holds
  iintro ⟨%f, %hf, H⟩
  rw [← out_set]
  iapply (Entails.of_eq (show ((oPart b j).loc (c : Thread nD τ) ↦[(oPart b j).set]{fullShare} f : sProp 𝕄)
      = (oLoc c ↦[(oA.access (outR b j)).set]{fullShare} outAll X W c : sProp 𝕄) from pointsTo_congr fun i hi => by
    obtain ⟨y, -, rfl⟩ := Finset.mem_map.mp hi
    exact View.eq_of_read_eq (v := oPart b j) (by rw [oPart_read, hf]))) $$ H

theorem of_batches : (bigSep Finset.univ fun b : Fin 4 => oDone X W c b) ⊢ (oLoc c ↦{fullShare} outAll X W c : sProp 𝕄) := by
  rw [Ring.pointsTo_blocks (ℓ := oLoc c) (fun p : Fin 4 × Fin 4 => (outR p.1 p.2).set) outR_disj outR_union (q := fullShare) (outAll X W c),
    bigSep_univ_prod]
  unfold oDone
  iintro H
  iapply (sep_mono_at (s := Finset.univ) (Φ := fun b : Fin 4 => bigSep Finset.univ fun j : Fin 4 => holds c (oPart b j) (outV X W c b j)) (fun b _ => (by
    iintro H
    iapply (sep_mono_at (s := Finset.univ) (Φ := fun j : Fin 4 => holds c (oPart b j) (outV X W c b j)) (fun j _ => done_at X W c b j)) $$ H))) $$ H

end Cert.KernelIdeal.OProj

end
-- ==== Proof.Cells.lean ====
/- A device's own semaphore cells: opened when the kernel starts, closed when it ends. -/
module

public import proofs.«01_k».proof.Proof.Split

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (X : Dev nD → Vec F S4x1024x16x128 .f32) (W : Dev nD → Vec F S2048x4096 .bf16)
variable (κ : GSem nD τ sig → ℕ) (σ : Key → ℕ) (c : Dev nD)

/-- A cell of the kernel's own semaphores. -/
abbrev ownCell (k : Own) : GSem nD τ sig := ((c : Thread nD τ), ownSem k)

/-- The round a device stands at, at each own cell: `n` at the copies, `r` at the transfers, `k` at the credits. -/
def roundAt (n r k : ℕ) : Own → ℕ
  | .inl _ => n
  | .inr (.inl _) => r
  | .inr (.inr (.inl _)) => r
  | .inr (.inr (.inr _)) => k

theorem eq_of_both {P Q : sProp 𝕄} (h : P ⊢ Q) (h' : Q ⊢ P) : P = Q := BI.equiv_iff.mp ⟨h, h'⟩

theorem own_split (Φ : Own → sProp 𝕄) : bigSep Finset.univ Φ
    = iprop((bigSep Finset.univ fun a : Fin 2 => Φ (.inl a))
      ∗ (bigSep Finset.univ fun s : Fin 2 => bigSep Finset.univ fun j : Fin 4 => Φ (.inr (.inl (s, j))))
      ∗ (bigSep Finset.univ fun s : Fin 2 => bigSep Finset.univ fun j : Fin 4 => Φ (.inr (.inr (.inl (s, j)))))
      ∗ Φ (.inr (.inr (.inr ())))) := by
  rw [bigSep_univ_sum, bigSep_univ_sum, bigSep_univ_sum, bigSep_univ_prod, bigSep_univ_prod, Finset.univ_unique (α := Unit), bigSep_singleton]
  rfl

/-- Where a device stands, as one conjunction over its own cells. -/
theorem stand_eq (n r k : ℕ) : Stand (F := F) c n r k
    = iprop((bigSep Finset.univ fun o : Own => atPos ER (ownCell c o) (roundAt n r k o) ∅ 0) ∗ atPos ER (barCell c) k ∅ 0) := by
  rw [own_split]
  unfold Stand sentAt recvAt
  refine eq_of_both ?_ ?_
  · iintro ⟨H0, H1, H2, H3, H4⟩
    isplitr [H4]
    · isplitl [H0]; · iexact H0
      isplitl [H1]; · iexact H1
      isplitl [H2]; · iexact H2
      iexact H3
    iexact H4
  · iintro ⟨⟨H0, H1, H2, H3⟩, H4⟩
    isplitl [H0]; · iexact H0
    isplitl [H1]; · iexact H1
    isplitl [H2]; · iexact H2
    isplitl [H3]; · iexact H3
    iexact H4

/-- The own cells' semaphores at zero. -/
def zeros : sProp 𝕄 := bigSep Finset.univ fun o : Own => semVal (ownCell c o) 0
/-- The rights to open the own cells. -/
def openers : sProp 𝕄 := bigSep Finset.univ fun o : Own => openTok ER (ownCell c o)

theorem open_one (o : Own) : iprop(Know X W κ σ ∗ (openTok ER (ownCell c o) ∗ semVal (ownCell c o) 0))
    ⊢ |={Set.univ}=> iprop(atPos ER (ownCell c o) (roundAt 0 0 0 o) ∅ 0 ∗ reached ER (ownCell c o) 0) := by
  rw [show roundAt 0 0 0 o = 0 from by rcases o with _ | _ | _ | _ <;> rfl]
  iintro ⟨#HK, Ho, Hv⟩
  iapply (Rounds.cell_open ER (sched X W) (g := ownCell c o) (Set.mem_univ (κ (ownCell c o))))
  isplitr; · iapply (know_own X W κ σ c o) $$ HK
  isplitl [Ho]; · iexact Ho
  iexact Hv

/-- All own cells opened. -/
theorem open_all : iprop(Know X W κ σ ∗ openers (F := F) c ∗ zeros (F := F) c ∗ atPos ER (barCell c) 0 ∅ 0 ∗ reached ER (barCell (peer c)) 0)
    ⊢ |={Set.univ}=> iprop(Stand (F := F) c 0 0 0 ∗ Fresh (F := F) c) := by
  rw [stand_eq]
  unfold openers zeros
  iintro ⟨#HK, Ho, Hv, Hb, #Hr⟩
  ihave H := (Entails.of_eq (bigSep_sep' (M := 𝕄) (s := Finset.univ) (Φ := fun o : Own => openTok ER (ownCell c o))
    (Ψ := fun o : Own => semVal (ownCell c o) 0)).symm) $$ [Ho Hv]
  · isplitl [Ho]; · iexact Ho
    iexact Hv
  ihave H' := (show iprop(Know X W κ σ ∗ bigSep Finset.univ fun o : Own => iprop(openTok ER (ownCell c o) ∗ semVal (ownCell c o) 0))
      ⊢ (|={Set.univ}=> bigSep Finset.univ fun o : Own => iprop(atPos ER (ownCell c o) (roundAt 0 0 0 o) ∅ 0 ∗ reached ER (ownCell c o) 0) : sProp 𝕄) from
    (bigSep_with_persistent fun o _ => open_one X W κ σ c o).trans (bigSep_fupd _ _)) $$ [H]
  · isplitr; · iexact HK
    iexact H
  imod H' with H'
  ihave H' := (Entails.of_eq (bigSep_sep' (M := 𝕄) (s := Finset.univ) (Φ := fun o : Own => atPos ER (ownCell c o) (roundAt 0 0 0 o) ∅ 0)
    (Ψ := fun o : Own => reached ER (ownCell c o) 0))) $$ H'
  icases H' with ⟨Hat, Hre⟩
  ihave Hre := (Entails.of_eq (own_split fun o : Own => reached ER (ownCell c o) 0)) $$ Hre
  icases Hre with ⟨Hc, Hs, Hv, Hk⟩
  imodintro
  isplitl [Hat Hb]
  · isplitl [Hat]; · iexact Hat
    iexact Hb
  unfold Fresh sentReached recvReached
  isplitr; · iexact Hr
  isplitl [Hk]; · iexact Hk
  isplitl [Hc]; · iexact Hc
  isplitl [Hs]; · iexact Hs
  iexact Hv

theorem later_bar : ∀ r, 1 ≤ r → (sched X W).duties (barCell c) r = ∅ := fun r hr => by
  dsimp only [sched]; rw [role_bar]; exact if_neg (by omega)

theorem later_own (o : Own) : ∀ r, roundAt 4 2 1 o ≤ r → (sched X W).duties (ownCell c o) r = ∅ :=
  match o with
  | .inl a => later_copy X W c a
  | .inr (.inl (s, j)) => later_sent X W c s j
  | .inr (.inr (.inl (s, j))) => later_recv X W c s j
  | .inr (.inr (.inr _)) => later_credit X W c

theorem close_one (o : Own) : iprop(Know X W κ σ ∗ atPos ER (ownCell c o) (roundAt 4 2 1 o) ∅ 0)
    ⊢ |={Set.univ}=> semVal (ownCell c o) 0 := by
  iintro ⟨#HK, Hat⟩
  iapply (Rounds.cell_close ER (sched X W) (g := ownCell c o) (Set.mem_univ (κ (ownCell c o))) id (later_own X W c o))
  isplitr; · iapply (know_own X W κ σ c o) $$ HK
  iexact Hat

/-- All cells closed. -/
theorem close_all : iprop(Know X W κ σ ∗ Stand (F := F) c 4 2 1) ⊢ |={Set.univ}=> iprop(zeros (F := F) c ∗ semVal (barCell c) 0) := by
  rw [stand_eq]
  unfold zeros
  iintro ⟨#HK, Hat, Hb⟩
  imod (Rounds.cell_close ER (sched X W) (g := barCell c) (Set.mem_univ (κ (barCell c))) id (later_bar X W c)) $$ [Hb] with Hb
  · isplitr; · iapply (know_bar X W κ σ c) $$ HK
    iexact Hb
  ihave H' := (show iprop(Know X W κ σ ∗ bigSep Finset.univ fun o : Own => atPos ER (ownCell c o) (roundAt 4 2 1 o) ∅ 0)
      ⊢ (|={Set.univ}=> bigSep Finset.univ fun o : Own => semVal (ownCell c o) 0 : sProp 𝕄) from
    (bigSep_with_persistent fun o _ => close_one X W κ σ c o).trans (bigSep_fupd _ _)) $$ [Hat]
  · isplitr; · iexact HK
    iexact Hat
  imod H' with H'
  imodintro
  isplitl [H']; · iexact H'
  iexact Hb

end Cert.KernelIdeal.OProj

end
-- ==== Proof.Region.lean ====
/- The kernel's region: what it is entered with, what it leaves, and its body. -/
module

public import proofs.«01_k».proof.Proof.Cells
public import proofs.«01_k».proof.Proof.Gen.KernelIdeal.Frame
public import Idealize.ShloMosaic.Lib.Pipeline.RegionTalk
public import Idealize.ShloMosaic.Lib.Pipeline.Value

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (m : (ℓ : Loc nD τ sig) → Buf (Elt F) ℓ)

/-! ## The contents -/

/-- Every device's input; every device's weights, as staged. -/
def inX (c : Dev nD) : Vec F S4x1024x16x128 .f32 := m ((c : Thread nD τ).loc main_arg0)
def inW (c : Dev nD) : Vec F S2048x4096 .bf16 := V m c main_v1

/-- A device's buffers: at the launch, at the region's entry, at its exit, at the end. -/
def val0 (c : Dev nD) : Valuation τ sig (Elt F) := fun b => m (c, b)
def val1 (c : Dev nD) : Valuation τ sig (Elt F) := StableHlo.after hostOps0 (val0 m c)
def val2 (c : Dev nD) : Valuation τ sig (Elt F) :=
  Function.update (val1 m c) (Proc.devRef .tc main_v2) (outAll (inX m) (inW m) c)
def val3 (c : Dev nD) : Valuation τ sig (Elt F) := StableHlo.after hostOps1 (val2 m c)

theorem val1_V (c : Dev nD) (b : Ref sig .tc) : val1 m c (Proc.devRef .tc b) = V m c b := rfl

theorem val2_v2 (c : Dev nD) : val2 m c (Proc.devRef .tc main_v2) = outAll (inX m) (inW m) c := by
  unfold val2; exact Function.update_self ..

theorem val2_ne (c : Dev nD) (b : DevRef τ sig) (h : b ≠ Proc.devRef .tc main_v2) : val2 m c b = val1 m c b := by
  unfold val2; exact Function.update_of_ne h _ _

theorem val1_arg0 (c : Dev nD) : val1 m c (Proc.devRef .tc main_arg0) = inX m c := V_main_arg0 m c

/-! ## The windows -/

variable (c : Dev nD)

/-- The invariant before the kernel and after it. -/
def entering : sProp 𝕄 :=
  iprop((∃ κ σ, Know (inX m) (inW m) κ σ ∗ Fresh (F := F) c ∗ Toks (F := F) c ∗ Stand (F := F) c 0 0 0
      ∗ bigSep Finset.univ fun s : Fin 2 => readers (F := F) c s 0)
    ∗ Creds (F := F) c ∗ Scratch (F := F) c ∗ (∃ r, prngReg c r) ∗ ((c : Thread nD τ).loc main_arg0 ↦{fullShare} inX m c))
def leaving : sProp 𝕄 :=
  iprop((zeros (F := F) c ∗ semVal (barCell c) 0) ∗ Scratch (F := F) c ∗ (∃ r, prngReg c r)
    ∗ ((c : Thread nD τ).loc main_arg0 ↦{fullShare} inX m c))

/-- The region's proof data. -/
def dat : Pipeline.Dat τ (Elt F) (Fin 2) ℕ UU ℕ cfg0 c where
  A w := V m c (Pipeline.arrRef spec0 w)
  after w t := match w with
    | 0 => iblk m c 0 t
    | 1 => outAll (inX m) (inW m) c
  Φ t := if t.val = 0 then entering m c else leaving m c
  q _ := fullShare
  owed t := if t.val = 0 then oweAll c else 0

theorem blk0_emb (t : Fin cfg0.N) (y : S2048x4096.Idx) : ((cfg0.win 0).blk t).view.emb y = y :=
  funext fun a => Fin.ext (by
    show 0 * _ + 1 * (y a).val = (y a).val
    omega)
theorem blk1_emb (t : Fin cfg0.N) (y : S4x512x4096.Idx) : ((cfg0.win 1).blk t).view.emb y = y :=
  funext fun a => Fin.ext (by
    show 0 * _ + 1 * (y a).val = (y a).val
    omega)

theorem iblk_eq (t : Fin cfg0.N) : iblk m c 0 t = inW m c :=
  funext fun y => congrArg (inW m c) (blk0_emb t y)

theorem before_w (t : Fin cfg0.N) (d) : (dat m c).before 0 t d = inW m c :=
  ((dat m c).before_in_eq_fetched 0 rfl (fun _ => rfl) (fun _ _ _ => rfl) (fun _ => rfl) t d).trans (iblk_eq m c t)

theorem arr_out : (dat m c).arrAt 1 cfg0.N = outAll (inX m) (inW m) c :=
  (dat m c).arrAt_eq_of_cover 1 (outAll (inX m) (inW m) c)
    (fun t _ => funext fun y => (congrArg (outAll (inX m) (inW m) c) (blk1_emb t y)).symm)
    (fun i => ⟨t0_0, flush0_1 t0_0, by
      have h := ((cfg0.win 1).blk t0_0).view.emb_mem_set i
      rw [blk1_emb] at h; exact h⟩)

theorem owed_eq (t : Fin (cfg0.N + 1)) : (dat m c).owed t = if t.val = 0 then oweAll c else 0 := rfl
theorem phi_eq (t : Fin (cfg0.N + 1)) : (dat m c).Φ t = if t.val = 0 then entering m c else leaving m c := rfl
theorem last_ne : ¬ (Fin.last cfg0.N).val = 0 := by
  rw [Fin.val_last, show cfg0.N = 1 from N_0]; decide

theorem owed_first : (dat m c).owed 0 = oweAll c := (owed_eq m c 0).trans (if_pos rfl)
theorem owed_start : (dat m c).owed t0_0.castSucc = oweAll c := (owed_eq m c _).trans (if_pos rfl)
theorem owed_end : (dat m c).owed t0_0.succ = 0 := (owed_eq m c _).trans (if_neg (Nat.succ_ne_zero _))
theorem owed_last : (dat m c).owed (Fin.last cfg0.N) = 0 := (owed_eq m c _).trans (if_neg last_ne)

theorem phi_first : (dat m c).Φ 0 = entering m c := (phi_eq m c 0).trans (if_pos rfl)
theorem phi_start : (dat m c).Φ t0_0.castSucc = entering m c := (phi_eq m c _).trans (if_pos rfl)
theorem phi_end : (dat m c).Φ t0_0.succ = leaving m c := (phi_eq m c _).trans (if_neg (Nat.succ_ne_zero _))
theorem phi_last : (dat m c).Φ (Fin.last cfg0.N) = leaving m c := (phi_eq m c _).trans (if_neg last_ne)

theorem owing_in (t : Fin (cfg0.N + 1)) (O : CellTallies nD τ sig (Fin 2)) (h : (dat m c).owed t = O) :
    owing (F := F) c O ⊢ (dat m c).owesAt 0 t := by
  unfold owing Pipeline.Dat.owesAt Pipeline.owesWithin Pipeline.Dat.bound
  rw [h]
  iintro ⟨%Wd, HO⟩
  iexists Wd
  isplitr
  · ipureintro; exact fun _ _ => Or.inl trivial
  iexact HO
theorem owing_out (t : Fin (cfg0.N + 1)) (O : CellTallies nD τ sig (Fin 2)) (h : (dat m c).owed t = O) :
    (dat m c).owesAt 0 t ⊢ owing (F := F) c O := by
  unfold owing Pipeline.Dat.owesAt Pipeline.owesWithin
  rw [h]
  iintro ⟨%Wd, -, HO⟩
  iexists Wd
  iexact HO

/-! ## The staged buffers -/

theorem wA_set : wA.view.set = Finset.univ := View.set_whole _
theorem oA_set : oA.view.set = Finset.univ := View.set_whole _

theorem w_of (t : Fin cfg0.N) (d) : owns (c : Thread nD τ) ((cfg0.win 0).stage (cfg0.slots t 0)) fullShare ((dat m c).before 0 t d) ⊢ wHeld (F := F) (inW m) c := by
  rw [before_w]
  unfold owns wHeld
  iintro ⟨%f, %hf, H⟩
  iapply (Entails.of_eq (show ((c : Thread nD τ).loc cc0_stg0_0 ↦[wA.view.set]{fullShare} f : sProp 𝕄)
      = ((c : Thread nD τ).loc cc0_stg0_0 ↦[Finset.univ]{fullShare} inW m c) from by rw [wA_set, show f = inW m c from hf])) $$ H

theorem of_w (t : Fin cfg0.N) : wHeld (F := F) (inW m) c ⊢ owns (c : Thread nD τ) ((cfg0.win 0).stage (cfg0.slots t 0)) fullShare ((dat m c).after 0 t) := by
  rw [show (dat m c).after 0 t = inW m c from iblk_eq m c t]
  unfold owns wHeld
  iintro H
  iexists (inW m c)
  isplitr; · ipureintro; rfl
  iapply (Entails.of_eq (show ((c : Thread nD τ).loc cc0_stg0_0 ↦[Finset.univ]{fullShare} inW m c : sProp 𝕄)
      = ((c : Thread nD τ).loc cc0_stg0_0 ↦[wA.view.set]{fullShare} inW m c) from by rw [wA_set])) $$ H

theorem o_of (t : Fin cfg0.N) (x) : owns (c : Thread nD τ) ((cfg0.win 1).stage (cfg0.slots t 1)) fullShare x
    ⊢ (bigSep Finset.univ fun b : Fin 4 => oBatch (F := F) c b) := by
  unfold owns
  iintro ⟨%f, -, H⟩
  iapply (batches_of (F := F) c)
  iexists f
  iapply (Entails.of_eq (show ((c : Thread nD τ).loc cc0_stg1_0 ↦[oA.view.set]{fullShare} f : sProp 𝕄)
      = ((c : Thread nD τ).loc cc0_stg1_0 ↦[Finset.univ]{fullShare} f) from by rw [oA_set])) $$ H

theorem of_o (t : Fin cfg0.N) : (bigSep Finset.univ fun b : Fin 4 => oDone (inX m) (inW m) c b)
    ⊢ owns (c : Thread nD τ) ((cfg0.win 1).stage (cfg0.slots t 1)) fullShare ((dat m c).after 1 t) := by
  unfold owns
  iintro H
  ihave H := (of_batches (inX m) (inW m) c) $$ H
  iexists (outAll (inX m) (inW m) c)
  isplitr; · ipureintro; rfl
  iapply (Entails.of_eq (show ((c : Thread nD τ).loc cc0_stg1_0 ↦[Finset.univ]{fullShare} outAll (inX m) (inW m) c : sProp 𝕄)
      = ((c : Thread nD τ).loc cc0_stg1_0 ↦[oA.view.set]{fullShare} outAll (inX m) (inW m) c) from by rw [oA_set])) $$ H

/-! ## The body -/

theorem body_op : bodyAt0 (F := F) t0_0 = .op .deviceId fun d => bodyOn (F := F) d := (body_eq t0_0).trans rfl

/-- From what the region's invariant holds to what it holds afterwards. -/
theorem body_run :
    iprop(entering m c ∗ owing (F := F) c (oweAll c) ∗ wHeld (inW m) c ∗ bigSep Finset.univ fun b : Fin 4 => oBatch (F := F) c b)
      ⊢ WP c (bodyAt0 (F := F) t0_0) (fun _ => iprop(leaving m c ∗ owing (F := F) c 0 ∗ wHeld (inW m) c
          ∗ bigSep Finset.univ fun b : Fin 4 => oDone (inX m) (inW m) c b)) := by
  unfold entering leaving
  iintro ⟨⟨⟨%κ, ⟨%σ, #HK, #Hf, Ht, Hst, Hrd⟩⟩, Hc, Hsc, Hp, Hx⟩, HO, Hw, Hb⟩
  unfold WP
  rw [body_op, wp_deviceId]
  iapply wp_fupd
  ihave H := (body_on (inX m) (inW m) κ σ c) $$ [Ht Hst Hrd Hc Hsc Hx HO Hw Hb]
  · unfold bodyIn
    isplitr; · iexact HK
    isplitr; · iexact Hf
    isplitl [Hx]; · iapply (Entails.of_eq (input_eq (inX m) c)) $$ Hx
    isplitl [Hsc]; · iapply (space_of c) $$ Hsc
    isplitl [Ht]; · iexact Ht
    isplitl [Hc]; · iexact Hc
    isplitl [Hst]; · iexact Hst
    isplitl [Hrd]; · iexact Hrd
    isplitl [Hb]; · iexact Hb
    isplitl [Hw]; · iexact Hw
    iexact HO
  iapply wp_wand $$ H
  iintro %_ H
  unfold bodyOut
  icases H with ⟨Hx, Hsc, Hst, Hb, Hw, HO⟩
  imod (close_all (inX m) (inW m) κ σ c) $$ [Hst] with Hz
  · isplitr; · iexact HK
    iexact Hst
  imodintro
  isplitl [Hz Hsc Hp Hx]
  · isplitl [Hz]; · iexact Hz
    isplitl [Hsc]; · iapply (of_space (inX m) (inW m) c) $$ Hsc
    isplitl [Hp]; · iexact Hp
    iapply (Entails.of_eq (input_eq (inX m) c).symm) $$ Hx
  isplitl [HO]; · iexact HO
  isplitl [Hw]; · iexact Hw
  iexact Hb

theorem body : Pipeline.BodyObligation (dat m c) defs₀ 𝒱₀ 0 Set.univ := fun t => by
  obtain rfl := fin_N0 t
  rw [bigSep_W0, bigSep_W0, phi_start, phi_end]
  iintro ⟨HP, HO, ⟨%d0, Hw⟩, ⟨%d1, Ho⟩⟩
  ihave H := (body_run m c) $$ [HP HO Hw Ho]
  · isplitl [HP]; · iexact HP
    isplitl [HO]; · iapply (owing_out m c _ _ (owed_start m c)) $$ HO
    isplitl [Hw]; · iapply (w_of m c t0_0 d0) $$ Hw
    iapply (o_of c t0_0 _) $$ Ho
  unfold WP
  iapply wp_wand $$ H
  iintro %_ ⟨HP, HO, Hw, Ho⟩
  isplitl [HP]; · iexact HP
  isplitl [HO]; · iapply (owing_in m c _ _ (owed_end m c)) $$ HO
  isplitl [Hw]; · iapply (of_w m c t0_0) $$ Hw
  iapply (of_o m c t0_0) $$ Ho

end Cert.KernelIdeal.OProj

end
-- ==== Proof.Enter.lean ====
/- The kernel's region as a segment of the program, between the two conversions around it. -/
module

public import proofs.«01_k».proof.Proof.Region

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (m : (ℓ : Loc nD τ sig) → Buf (Elt F) ℓ)

abbrev adm : (p : Fin 1) → (pcfgs (F := F) p).Adm := fun p => (cfgs p).toPCfg_adm

def pdats : (p : Fin 1) → (c : Dev nD) → Pipeline.Dat τ (Elt F) (Fin 2) ℕ UU ℕ (Pipeline.pin (pcfgs (F := F)) adm p) c
  | 0 => dat m

/-! ## The buffers -/

/-- The program's unscoped buffers; those the kernel's windows do not stage; the one its body addresses itself. -/
def bufs : Finset (DevRef τ sig) := (StableHlo.tcRefs τ sig).filter fun b => ¬ b.isScoped
def others : Finset (DevRef τ sig) := {Proc.devRef .tc main_arg0, Proc.devRef .tc main_arg1, Proc.devRef .tc main_v3}
def direct : Finset (DevRef τ sig) := {Proc.devRef .tc main_arg0}

/-- One buffer, whole. -/
abbrev pt (c : Dev nD) (b : Ref sig .tc) (f : Buf (Elt F) ((c : Thread nD τ).loc b)) : sProp 𝕄 := (c : Thread nD τ).loc b ↦{fullShare} f

theorem unscoped_held (c : Dev nD) (U : Valuation τ sig (Elt F)) :
    (unscopedBufs c (fun b => U b) : sProp 𝕄) = StableHlo.held (c : Thread nD τ) bufs U := by
  unfold unscopedBufs StableHlo.held bufs StableHlo.tcRefs
  rw [Finset.filter_map, BI.bigSep_map]
  rfl

theorem bufs_eq (c : Dev nD) (U : Valuation τ sig (Elt F)) : (StableHlo.held (c : Thread nD τ) bufs U : sProp 𝕄)
    = iprop(pt c main_arg0 (U main_arg0) ∗ pt c main_arg1 (U main_arg1) ∗ pt c main_v1 (U main_v1) ∗ pt c main_v2 (U main_v2) ∗ pt c main_v3 (U main_v3)) := by
  unfold StableHlo.held
  rw [bigSep_eq_bigSepL_of_eq [Proc.devRef .tc main_arg0, Proc.devRef .tc main_arg1, Proc.devRef .tc main_v1, Proc.devRef .tc main_v2, Proc.devRef .tc main_v3]
    (by decide) (by decide)]
  rfl

theorem others_eq (c : Dev nD) (U : Valuation τ sig (Elt F)) : (StableHlo.held (c : Thread nD τ) others U : sProp 𝕄)
    = iprop(pt c main_arg0 (U main_arg0) ∗ pt c main_arg1 (U main_arg1) ∗ pt c main_v3 (U main_v3)) := by
  unfold StableHlo.held
  rw [bigSep_eq_bigSepL_of_eq [Proc.devRef .tc main_arg0, Proc.devRef .tc main_arg1, Proc.devRef .tc main_v3] (by decide) (by decide)]
  rfl

theorem direct_eq (c : Dev nD) (U : Valuation τ sig (Elt F)) : (StableHlo.held (c : Thread nD τ) direct U : sProp 𝕄)
    = pt c main_arg0 (U main_arg0) := by
  unfold StableHlo.held direct
  rw [bigSep_singleton]

theorem arrRefs_eq : Pipeline.arrRefs (τ := τ) spec0 = {Proc.devRef .tc main_v1, Proc.devRef .tc main_v2} := by decide

theorem arrays_eq (c : Dev nD) (U : Valuation τ sig (Elt F)) :
    (StableHlo.held (c : Thread nD τ) (Pipeline.arrRefs (τ := τ) (pcfgs (F := F) 0).spec) U : sProp 𝕄)
    = iprop(pt c main_v1 (U main_v1) ∗ pt c main_v2 (U main_v2)) := by
  unfold StableHlo.held
  rw [show Pipeline.arrRefs (τ := τ) (pcfgs (F := F) 0).spec = {Proc.devRef .tc main_v1, Proc.devRef .tc main_v2} from arrRefs_eq,
    bigSep_eq_bigSepL_of_eq [Proc.devRef .tc main_v1, Proc.devRef .tc main_v2] (by decide) (by decide)]
  rfl

theorem direct_sub : direct ⊆ others := by decide

theorem val2_arg0 (c : Dev nD) : val2 m c (Proc.devRef .tc main_arg0) = inX m c :=
  (val2_ne m c _ (StableHlo.devRef_ne_of_ne (by decide))).trans (val1_arg0 m c)

theorem rest_same (c : Dev nD) (b : DevRef τ sig) (h : b ∈ others \ direct) : val2 m c b = val1 m c b := by
  refine val2_ne m c b ?_
  rintro rfl
  revert h; decide

/-! ## What the region is entered with -/

/-- A device's share of the launch: what it knows, its position at the barrier cell, its rights to open its own cells,
    its tokens and its credits. -/
def start (c : Dev nD) : sProp 𝕄 :=
  iprop((∃ κ σ, Know (inX m) (inW m) κ σ ∗ reached ER (barCell (peer c)) 0 ∗ atPos ER (barCell c) 0 ∅ 0 ∗ openers (F := F) c ∗ Toks (F := F) c
      ∗ bigSep Finset.univ fun s : Fin 2 => readers (F := F) c s 0)
    ∗ Creds (F := F) c)

/-- The same with the own cells opened. -/
def opened (c : Dev nD) : sProp 𝕄 :=
  iprop((∃ κ σ, Know (inX m) (inW m) κ σ ∗ Fresh (F := F) c ∗ Toks (F := F) c ∗ Stand (F := F) c 0 0 0
      ∗ bigSep Finset.univ fun s : Fin 2 => readers (F := F) c s 0)
    ∗ Creds (F := F) c)

/-- What the region leaves of it. -/
def ended (c : Dev nD) : sProp 𝕄 := semVal (barCell c) 0

theorem zeros_eq (c : Dev nD) : (Pipeline.ownSems0 ownSem c : sProp 𝕄) = zeros (F := F) c := rfl

theorem arr_in (c : Dev nD) (t : ℕ) : (dat m c).arrAt 0 t = val2 m c (Proc.devRef .tc main_v1) :=
  ((dat m c).arrAt_in 0 rfl t).trans (val2_ne m c (Proc.devRef .tc main_v1) (StableHlo.devRef_ne_of_ne (by decide))).symm

theorem start_opened (c : Dev nD) : iprop(start m c ∗ Pipeline.ownSems0 ownSem c ∗ levAts L lv) ⊢ (|={Set.univ}=> opened m c : sProp 𝕄) := by
  rw [zeros_eq]
  unfold start opened
  iintro ⟨⟨⟨%κ, %σ, #HK, #Hr, Hat, Ho, Ht, Hrd⟩, Hc⟩, Hz, -⟩
  imod (open_all (inX m) (inW m) κ σ c) $$ [Ho Hz Hat] with ⟨Hst, #Hf⟩
  · isplitr; · iexact HK
    isplitl [Ho]; · iexact Ho
    isplitl [Hz]; · iexact Hz
    isplitl [Hat]; · iexact Hat
    iexact Hr
  imodintro
  isplitr [Hc]
  · iexists κ; iexists σ
    isplitr; · iexact HK
    isplitr; · iexact Hf
    isplitl [Ht]; · iexact Ht
    isplitl [Hst]; · iexact Hst
    iexact Hrd
  iexact Hc

theorem opened_in (c : Dev nD) : iprop(Pipeline.scopedRest (Pipeline.pin (pcfgs (F := F)) adm 0).spec c ∗ (∃ r, prngReg c r)
      ∗ StableHlo.held (c.tc : Thread nD τ) direct (val1 m c) ∗ opened m c)
    ⊢ (pdats m 0 c).Φ 0 := by
  rw [show (pdats m 0 c).Φ 0 = entering m c from phi_first m c, direct_eq,
    show (Pipeline.scopedRest (Pipeline.pin (pcfgs (F := F)) adm 0).spec c : sProp 𝕄) = Scratch (F := F) c from scopedRest0_eq c]
  unfold entering opened
  iintro ⟨Hs, Hp, Hx, HK, Hc⟩
  isplitl [HK]; · iexact HK
  isplitl [Hc]; · iexact Hc
  isplitl [Hs]; · iexact Hs
  isplitl [Hp]; · iexact Hp
  iapply (Entails.of_eq (show (pt c main_arg0 (val1 m c main_arg0) : sProp 𝕄) = (c : Thread nD τ).loc main_arg0 ↦{fullShare} inX m c from
    by rw [val1_arg0])) $$ Hx

theorem left_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) direct (val2 m c) ∗ Pipeline.ownSems0 ownSem c ∗ ended c) := by
  rw [show (pdats m 0 c).Φ (Fin.last _) = leaving m c from phi_last m c, direct_eq,
    show (Pipeline.scopedRest (Pipeline.pin (pcfgs (F := F)) adm 0).spec c : sProp 𝕄) = Scratch (F := F) c from scopedRest0_eq c]
  rw [zeros_eq]
  unfold leaving ended
  iintro ⟨⟨Hz, Hb⟩, Hs, Hp, Hx⟩
  isplitl [Hs]; · iexact Hs
  isplitl [Hp]; · iexact Hp
  isplitl [Hx]
  · iapply (Entails.of_eq (show (pt c main_arg0 (val2 m c main_arg0) : sProp 𝕄) = (c : Thread nD τ).loc main_arg0 ↦{fullShare} inX m c from
      by rw [val2_arg0]).symm) $$ Hx
  isplitl [Hz]; · iexact Hz
  iexact Hb

theorem above_all (c : Dev nD) : Above 0 (oweAll c) :=
  ((above_owe0 c).mono (by decide)).add (Above.tally (peer c) _ 0 1 (by rw [lv_bar]; decide))

theorem cut_owed (c : Dev nD) (t : Fin ((Pipeline.pin (pcfgs (F := F)) adm 0).N + 1)) (g : GSem nD τ sig) (i : Fin 2)
    (h : 0 < (pdats (F := F) m 0 c).owed t g i) : i ∈ L g ∧ (0 : ℕ) < lv g i := by
  rw [show (pdats (F := F) m 0 c).owed t = if t.val = 0 then oweAll c else 0 from rfl] at h
  split at h
  · exact above_all c g i h
  · exact absurd h (Nat.lt_irrefl 0)

theorem kit : Pipeline.PLaunchFacts (nD := nD) (τ := τ) (pcfgs (F := F)) 0 := launch0.toP

theorem own_facts : Pipeline.OwnSemFacts spec0 ownSem := by decide

theorem stage_lv (c : Dev nD) (w : Fin 2) : ∀ s : Fin (cfg0.win w).nbuf, lv ((c : Thread nD τ), .dma ((cfg0.win w).sem s)) 0 ≤ 0 := by
  fin_cases w
  · exact fun s => le_of_eq rfl
  · exact fun s => le_of_eq rfl

set_option backward.isDefEq.respectTransparency.types false in
/-- The kernel's region. -/
def region : Pipeline.RegionSeg (pcfgs (F := F)) adm (pdats m) 0 defs₀ 𝒱₀ L lv 0 :=
  Pipeline.RegionSeg.ofTalk (pcfgs (F := F)) adm (pdats m) 0 defs₀ 𝒱₀ L lv 0 ownSem own_facts
    direct others direct_sub kit rfl (fun c => (body m c).loose)
    (fun _ => 0) oweAll (fun c => (owed_first m c).trans (zero_add _).symm) (fun c => owed_last m c) (fun _ => rfl)
    (fun c w => by fin_cases w <;> rfl)
    (val1 m) (val2 m) (rest_same m)
    (start m) ended (opened m) ended (start_opened m) (opened_in m) (left_out m)
    (fun c => by iintro H; imodintro; iexact H)
    (fun _ => 0)
    ⟨fun c w s => by rw [L_tc]; exact Finset.mem_univ _, fun c w s => stage_lv c w s, fun c t g i h => cut_owed m c t g i h⟩
    (fun _ => iprop(emp))
    (fun c w => by fin_cases w <;> rfl)
    (fun c w => by
      fin_cases w
      · exact arr_in m c _
      · exact (arr_out m c).trans (val2_v2 m c).symm)

/-! ## The segments -/

/-- What rides beside the buffers up to the region. -/
def riding (c : Dev nD) : sProp 𝕄 := iprop(start m c ∗ (∃ r, prngReg c r) ∗ owing (F := F) c (oweAll c))
/-- And after it. -/
def landed (c : Dev nD) : sProp 𝕄 := iprop(semVal (barCell c) 0 ∗ owing (F := F) c 0)

theorem region_pre (c : Dev nD) : iprop(StableHlo.held (c : Thread nD τ) bufs (val1 m c) ∗ riding m c) ⊢ (region m).pre c := by
  show _ ⊢ iprop(StableHlo.held (c.tc : Thread nD τ) (Pipeline.arrRefs (τ := τ) (pcfgs (F := F) 0).spec) (val1 m c) ∗ (∃ r, prngReg c r)
    ∗ (StableHlo.held (c.tc : Thread nD τ) others (val1 m c) ∗ emp) ∗ start m c ∗ ∃ Wd, owes (c : Thread nD τ) (0 + oweAll c) Wd)
  rw [arrays_eq, others_eq, bufs_eq, zero_add]
  unfold riding owing
  iintro ⟨⟨H0, H1, H2, H3, H4⟩, Hs, Hp, HO⟩
  isplitl [H2 H3]
  · isplitl [H2]; · iexact H2
    iexact H3
  isplitl [Hp]; · iexact Hp
  isplitl [H0 H1 H4]
  · isplitl
    · isplitl [H0]; · iexact H0
      isplitl [H1]; · iexact H1
      iexact H4
    iempintro
  isplitl [Hs]; · iexact Hs
  iexact HO

theorem region_post (c : Dev nD) : (region m).post c ⊢ iprop(StableHlo.held (c : Thread nD τ) bufs (val2 m c) ∗ landed (F := F) c) := by
  show iprop(StableHlo.held (c.tc : Thread nD τ) (Pipeline.arrRefs (τ := τ) (pcfgs (F := F) 0).spec) (val2 m c) ∗ (∃ r, prngReg c r)
    ∗ (StableHlo.held (c.tc : Thread nD τ) others (val2 m c) ∗ emp) ∗ ended c ∗ ∃ Wd, owes (c : Thread nD τ) (0 : CellTallies nD τ sig (Fin 2)) Wd) ⊢ _
  rw [arrays_eq, others_eq, bufs_eq]
  unfold landed owing ended
  iintro ⟨⟨H2, H3⟩, -, ⟨⟨H0, H1, H4⟩, -⟩, Hb, HO⟩
  isplitr [Hb HO]
  · isplitl [H0]; · iexact H0
    isplitl [H1]; · iexact H1
    isplitl [H2]; · iexact H2
    isplitl [H3]; · iexact H3
    iexact H4
  isplitl [Hb]; · iexact Hb
  iexact HO

theorem ops0_sub : ∀ op ∈ (hostOps0 : List (HloOp τ sig (Elt F))), op.bufs ⊆ bufs := fun op h => by
  simp only [hostOps0, List.mem_singleton] at h; subst h
  show ({Proc.devRef .tc main_arg1, Proc.devRef .tc main_v1} : Finset (DevRef τ sig)) ⊆ bufs; decide
theorem ops1_sub : ∀ op ∈ (hostOps1 : List (HloOp τ sig (Elt F))), op.bufs ⊆ bufs := fun op h => by
  simp only [hostOps1, List.mem_singleton] at h; subst h
  show ({Proc.devRef .tc main_v2, Proc.devRef .tc main_v3} : Finset (DevRef τ sig)) ⊆ bufs; decide
theorem ops0_fresh : ∀ op ∈ (hostOps0 : List (HloOp τ sig (Elt F))), op.fresh = ∅ := List.forall_iff_forall_mem.mp hostOps0_fresh
theorem ops1_fresh : ∀ op ∈ (hostOps1 : List (HloOp τ sig (Elt F))), op.fresh = ∅ := List.forall_iff_forall_mem.mp hostOps1_fresh

/-- The conversion before the region and the one after it. -/
def before : Pipeline.HostSeg (Name := ℕ) (U := UU) (pcfgs (F := F)) defs₀ 𝒱₀ L lv :=
  Pipeline.HostSeg.ofOps _ _ _ _ _ bufs hostOps0 ops0_sub ops0_fresh (val0 m) (riding m)
def behind : Pipeline.HostSeg (Name := ℕ) (U := UU) (pcfgs (F := F)) defs₀ 𝒱₀ L lv :=
  Pipeline.HostSeg.ofOps _ _ _ _ _ bufs hostOps1 ops1_sub ops1_fresh (val2 m) (landed (F := F))

/-- The program as its segments. -/
def segs : List (Pipeline.Seg (pcfgs (F := F)) adm (pdats m) 0 defs₀ 𝒱₀ L lv) :=
  [.host (before m), .region (region m), .host (behind m)]

theorem main_run (c : Dev nD) : main (F := F) c = Pipeline.Seg.run (segs m) :=
  main_segs adm (pdats m) 0 𝒱₀ L lv (before m) (behind m) (region m) rfl rfl c

end Cert.KernelIdeal.OProj

end
-- ==== Proof.Credit.lean ====
/- The credits a device is launched with: what its peer owes it. -/
module

public import proofs.«01_k».proof.Proof.Enter

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

/-- What the peer owes a device at each of its semaphores, for one batch and in all. -/
def dueBatch (sm : SemLoc sig) (i : Fin 2) (b : Fin 4) : ℕ := ∑ j : Fin 4, if sm = SemLoc.dma (rSem (slot b) j) ∧ i = rnd b then NC else 0
def due (sm : SemLoc sig) (i : Fin 2) : ℕ :=
  (∑ b : Fin 4, dueBatch sm i b)
    + ((∑ s : Fin 2, if sm = SemLoc.reg kSem ∧ i = s then 1 else 0) + if sm = SemLoc.reg bSem ∧ i = 0 then 1 else 0)

theorem tally_at (d c : Dev nD) (sm sm' : SemLoc sig) (i i' : Fin 2) (k : ℕ) :
    tallyAt ((peer d : Thread nD τ), sm') i' k ((c : Thread nD τ), sm) i = if d = peer c then (if sm = sm' ∧ i = i' then k else 0) else 0 := by
  rw [tallyAt_apply]
  by_cases h : d = peer c
  · subst h
    rw [peer_peer, if_pos rfl]
    exact if_congr ⟨fun h => ⟨congrArg Prod.snd h.1, h.2⟩, fun h => ⟨by rw [h.1], h.2⟩⟩ rfl rfl
  · rw [if_neg h, if_neg]
    rintro ⟨h', -⟩
    refine h ?_
    rw [show c = peer d from congrArg (fun g : GSem nD τ sig => g.1.1) h', peer_peer]

theorem from_at (d c : Dev nD) (b : Fin 4) (sm : SemLoc sig) (i : Fin 2) :
    oweFrom d b 0 ((c : Thread nD τ), sm) i = if d = peer c then dueBatch sm i b else 0 := by
  unfold oweFrom oweChunk dueBatch
  rw [Finset.sum_apply, Finsupp.finset_sum_apply]
  simp only [Nat.zero_le, if_true, tally_at]
  split <;> simp

theorem owed_at (d c : Dev nD) (sm : SemLoc sig) (i : Fin 2) :
    oweAll d ((c : Thread nD τ), sm) i = if d = peer c then due sm i else 0 := by
  unfold oweAll owe0 owe1 oweK0 owe2 oweK1 owe3 oweCredit oweBar due
  simp only [Pi.add_apply, Finsupp.add_apply, from_at, tally_at]
  split
  · rw [Fin.sum_univ_four, Fin.sum_univ_two]; omega
  · rfl

theorem launch_at (c : Dev nD) (sm : SemLoc sig) (i : Fin 2) :
    launchCredit (Pipeline.owing oweAll) 0 ((c : Thread nD τ), sm) i = due sm i := by
  rw [Pipeline.launchCredit_owing, Finset.sum_congr rfl fun d _ => owed_at d c sm i,
    Finset.sum_ite_eq' Finset.univ (peer c) fun _ => due sm i, if_pos (Finset.mem_univ _)]

theorem recv_iff : ∀ (s : Fin 2) (j : Fin 4) (i : Fin 2) (b j' : Fin 4),
    (SemLoc.dma (rSem s j) = SemLoc.dma (sig := sig) (rSem (slot b) j') ∧ i = rnd b) ↔ (b = batch s i.val ∧ j' = j) := by decide +kernel

theorem recv_other : ∀ (s : Fin 2) (j : Fin 4), SemLoc.dma (rSem s j) ≠ SemLoc.reg (sig := sig) kSem ∧ SemLoc.dma (rSem s j) ≠ SemLoc.reg (sig := sig) bSem := by
  decide +kernel
theorem credit_other : SemLoc.reg (sig := sig) kSem ≠ SemLoc.reg (sig := sig) bSem ∧ ∀ (s : Fin 2) (j : Fin 4), SemLoc.reg kSem ≠ SemLoc.dma (sig := sig) (rSem s j) := by
  decide +kernel
theorem bar_other : SemLoc.reg (sig := sig) bSem ≠ SemLoc.reg (sig := sig) kSem ∧ ∀ (s : Fin 2) (j : Fin 4), SemLoc.reg bSem ≠ SemLoc.dma (sig := sig) (rSem s j) := by
  decide +kernel

theorem due_recv (s : Fin 2) (j : Fin 4) (i : Fin 2) : due (.dma (rSem s j)) i = NC := by
  unfold due dueBatch
  simp only [recv_iff, (recv_other s j).1, (recv_other s j).2, false_and, if_false, Finset.sum_const_zero, ite_and, Finset.sum_ite_eq',
    Finset.mem_univ, if_true, add_zero]
  rw [Finset.sum_eq_single (batch s i.val) (fun b _ h => Finset.sum_eq_zero fun _ _ => if_neg h) (fun h => absurd (Finset.mem_univ _) h)]
  simp
theorem due_credit (i : Fin 2) : due (.reg kSem) i = 1 := by
  unfold due dueBatch
  simp only [credit_other.1, credit_other.2, false_and, if_false, Finset.sum_const_zero, true_and, Finset.sum_ite_eq, Finset.mem_univ, if_true, add_zero,
    zero_add]
theorem due_bar (i : Fin 2) : due (.reg bSem) i = if i = 0 then 1 else 0 := by
  unfold due dueBatch
  simp only [bar_other.1, bar_other.2, false_and, if_false, Finset.sum_const_zero, true_and, zero_add]

/-- Two indices, each at its own count. -/
theorem on_two (g : GSem nD τ sig) (T : Tally (Fin 2)) (n0 n1 : ℕ) (h0 : T 0 = n0) (h1 : T 1 = n1) :
    tallyOn g T = (tallyAt g 0 n0 + tallyAt g 1 n1 : CellTallies nD τ sig (Fin 2)) := by
  unfold tallyAt
  rw [← tallyOn_add]
  refine congrArg _ (Finsupp.ext fun i => ?_)
  rw [Finsupp.add_apply]
  rcases (by decide : ∀ i : Fin 2, i = 0 ∨ i = 1) i with rfl | rfl
  · rw [Finsupp.single_eq_same, Finsupp.single_eq_of_ne (by decide), h0, add_zero]
  · rw [Finsupp.single_eq_same, Finsupp.single_eq_of_ne (by decide), h1, zero_add]

/-- The semaphores a device has credits for. -/
def paid : (Fin 2 × Fin 4) ⊕ Unit ⊕ Unit → SemLoc sig
  | .inl p => .dma (rSem p.1 p.2)
  | .inr (.inl _) => .reg kSem
  | .inr (.inr _) => .reg bSem
theorem paid_inj : Function.Injective paid := by decide +kernel

theorem cred_two (a b : CellTallies nD τ sig (Fin 2)) : (cred (a + b) : sProp 𝕄) ⊢ iprop(cred a ∗ cred b) := (cred_add a b).1

theorem creds_of (c : Dev nD) : (Pipeline.launchCred oweAll c : sProp 𝕄) ⊢ Creds (F := F) c := by
  unfold Pipeline.launchCred
  have h1 : (bigSep Finset.univ fun sm : SemLoc sig => (cred (tallyOn ((c : Thread nD τ), sm) (launchCredit (Pipeline.owing oweAll) 0 ((c : Thread nD τ), sm))) : sProp 𝕄))
      ⊢ bigSep (Finset.univ.map ⟨paid, paid_inj⟩) fun sm : SemLoc sig => (cred (tallyOn ((c : Thread nD τ), sm) (launchCredit (Pipeline.owing oweAll) 0 ((c : Thread nD τ), sm))) : sProp 𝕄) :=
    bigSep_subset (Finset.subset_univ _)
  have hr (s : Fin 2) (j : Fin 4) : (cred (tallyOn (recvCell c s j) (launchCredit (Pipeline.owing oweAll) 0 (recvCell c s j))) : sProp 𝕄)
      ⊢ iprop(cred (tallyAt (recvCell c s j) 0 NC) ∗ cred (tallyAt (recvCell c s j) 1 NC)) := by
    rw [on_two _ _ NC NC ((launch_at c _ 0).trans (due_recv s j 0)) ((launch_at c _ 1).trans (due_recv s j 1))]
    exact cred_two _ _
  have hk : (cred (tallyOn (creditCell c) (launchCredit (Pipeline.owing oweAll) 0 (creditCell c))) : sProp 𝕄)
      ⊢ iprop(cred (tallyAt (creditCell c) 0 1) ∗ cred (tallyAt (creditCell c) 1 1)) := by
    rw [on_two _ _ 1 1 ((launch_at c _ 0).trans (due_credit 0)) ((launch_at c _ 1).trans (due_credit 1))]
    exact cred_two _ _
  have hb : (cred (tallyOn (barCell c) (launchCredit (Pipeline.owing oweAll) 0 (barCell c))) : sProp 𝕄)
      ⊢ iprop(cred (tallyAt (barCell c) 0 1) ∗ cred (tallyAt (barCell c) 1 0)) := by
    rw [on_two _ _ 1 0 ((launch_at c _ 0).trans (due_bar 0)) ((launch_at c _ 1).trans (due_bar 1))]
    exact cred_two _ _
  have h2 : (bigSep (Finset.univ.map ⟨paid, paid_inj⟩) fun sm : SemLoc sig => (cred (tallyOn ((c : Thread nD τ), sm) (launchCredit (Pipeline.owing oweAll) 0 ((c : Thread nD τ), sm))) : sProp 𝕄))
      = iprop(((bigSep Finset.univ fun j : Fin 4 => cred (tallyOn (recvCell c 0 j) (launchCredit (Pipeline.owing oweAll) 0 (recvCell c 0 j))))
          ∗ (bigSep Finset.univ fun j : Fin 4 => cred (tallyOn (recvCell c 1 j) (launchCredit (Pipeline.owing oweAll) 0 (recvCell c 1 j)))))
        ∗ cred (tallyOn (creditCell c) (launchCredit (Pipeline.owing oweAll) 0 (creditCell c)))
        ∗ cred (tallyOn (barCell c) (launchCredit (Pipeline.owing oweAll) 0 (barCell c)))) := by
    rw [bigSep_map, bigSep_univ_sum, bigSep_univ_sum, bigSep_univ_prod, Finset.univ_unique (α := Unit), bigSep_singleton, bigSep_singleton, two]
    rfl
  refine BIBase.Entails.trans (BIBase.Entails.trans h1 (Entails.of_eq h2)) ?_
  unfold Creds recvCreds
  rw [four (fun b => bigSep Finset.univ fun j : Fin 4 => cred (tallyAt (recvCell c (slot b) j) (rnd b) NC)),
    two (fun s => cred (tallyAt (creditCell c) s 1))]
  iintro ⟨⟨H0, H1⟩, Hk, Hb⟩
  ihave H0 := (sep_mono_at (fun j _ => hr 0 j)) $$ H0
  ihave H1 := (sep_mono_at (fun j _ => hr 1 j)) $$ H1
  ihave H0 := (Entails.of_eq (bigSep_sep' (M := 𝕄) (s := Finset.univ) (Φ := fun j : Fin 4 => cred (tallyAt (recvCell c 0 j) 0 NC))
    (Ψ := fun j : Fin 4 => cred (tallyAt (recvCell c 0 j) 1 NC)))) $$ H0
  ihave H1 := (Entails.of_eq (bigSep_sep' (M := 𝕄) (s := Finset.univ) (Φ := fun j : Fin 4 => cred (tallyAt (recvCell c 1 j) 0 NC))
    (Ψ := fun j : Fin 4 => cred (tallyAt (recvCell c 1 j) 1 NC)))) $$ H1
  icases H0 with ⟨H00, H01⟩
  icases H1 with ⟨H10, H11⟩
  ihave Hk := hk $$ Hk
  ihave Hb := hb $$ Hb
  icases Hb with ⟨Hb, -⟩
  isplitr [Hk Hb]
  · isplitl [H00]; · iexact H00
    isplitl [H10]; · iexact H10
    isplitl [H01]; · iexact H01
    iexact H11
  isplitl [Hk]; · iexact Hk
  iexact Hb

end Cert.KernelIdeal.OProj

end
-- ==== Proof.Deal.lean ====
/- The tokens of all payments, dealt to the devices that make them. -/
module

public import proofs.«01_k».proof.Proof.Credit

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

/-! ## The duty tokens -/

/-- A device's cells' payments: its copies; its chunks sent and received, by batch; the two credits; the barrier. -/
abbrev Pay : Type := (Fin 4 × Fin 2 × Fin 16) ⊕ (Fin 4 × Fin 4) ⊕ (Fin 4 × Fin 4) ⊕ Fin 2 ⊕ Unit

/-- The semaphore, the round and the number of a payment. -/
def payAt : Pay → SemLoc sig × ℕ × Fin 16
  | .inl (b, a, h) => (.dma (xSem a), b.val, h)
  | .inr (.inl (b, j)) => (.dma (sSem (slot b) j), (rnd b).val, 0)
  | .inr (.inr (.inl (b, j))) => (.dma (rSem (slot b) j), (rnd b).val, 0)
  | .inr (.inr (.inr (.inl s))) => (.reg kSem, 0, payNo s)
  | .inr (.inr (.inr (.inr _))) => (.reg bSem, 0, 0)

/-- The same with the semaphore as a number. -/
def semNo : SemLoc sig → ℕ
  | .dma n => n.val
  | .reg n => 100 + n.val
def payKey (p : Pay) : ℕ := semNo (payAt p).1 * 1000 + (payAt p).2.1 * 100 + (payAt p).2.2.val

theorem payKey_inj : Function.Injective payKey := by decide +kernel
theorem payAt_inj : Function.Injective payAt := fun p q h => payKey_inj (by unfold payKey; rw [h])

def payEmb : Dev nD × Pay ↪ GSem nD τ sig × ℕ × Fin 16 :=
  ⟨fun x => (((x.1 : Thread nD τ), (payAt x.2).1), (payAt x.2).2.1, (payAt x.2).2.2), fun x y h =>
    Prod.ext (congrArg (fun t : GSem nD τ sig × ℕ × Fin 16 => t.1.1.1) h)
      (payAt_inj (Prod.ext (congrArg (fun t : GSem nD τ sig × ℕ × Fin 16 => t.1.2) h)
        (Prod.ext (congrArg (fun t : GSem nD τ sig × ℕ × Fin 16 => t.2.1) h) (congrArg (fun t : GSem nD τ sig × ℕ × Fin 16 => t.2.2) h))))⟩

/-- All duty tokens. -/
def duties : Finset (GSem nD τ sig × ℕ × Fin 16) := Finset.univ.map payEmb

variable (c : Dev nD)

def copyTok : sProp 𝕄 := bigSep Finset.univ fun b : Fin 4 => bigSep Finset.univ fun a : Fin 2 => copyToks (F := F) c b a
def sentTok : sProp 𝕄 := bigSep Finset.univ fun x : Fin 4 × Fin 4 => dutyTok ER (sentCell c (slot x.1) x.2) (rnd x.1).val 0
def recvTok : sProp 𝕄 := bigSep Finset.univ fun x : Fin 4 × Fin 4 => dutyTok ER (recvCell c (slot x.1) x.2) (rnd x.1).val 0
def creditTok : sProp 𝕄 := bigSep Finset.univ fun s : Fin 2 => dutyTok ER (creditCell c) 0 (payNo s)
def barTok : sProp 𝕄 := dutyTok ER (barCell c) 0 0
def writeToks : sProp 𝕄 := bigSep Finset.univ fun x : Fin 4 × Fin 4 => Release.writeTok ES (peer c, slot x.1, x.2) ((rnd x.1).val + 1)

theorem duties_eq : bigSep duties (fun x => (dutyTok ER x.1 x.2.1 x.2.2 : sProp 𝕄))
    = bigSep Finset.univ fun c : Dev nD => iprop(copyTok (F := F) c ∗ sentTok (F := F) c ∗ recvTok (F := F) c ∗ creditTok (F := F) c ∗ barTok (F := F) c) := by
  unfold duties
  rw [bigSep_map, bigSep_univ_prod]
  refine bigSep_congr fun c _ => ?_
  rw [bigSep_univ_sum, bigSep_univ_sum, bigSep_univ_sum, bigSep_univ_sum, Finset.univ_unique (α := Unit), bigSep_singleton, bigSep_univ_prod]
  unfold copyTok copyToks
  rw [show (bigSep Finset.univ fun b : Fin 4 => bigSep Finset.univ fun p : Fin 2 × Fin 16 =>
        (dutyTok ER (payEmb (c, Sum.inl (b, p))).1 (payEmb (c, Sum.inl (b, p))).2.1 (payEmb (c, Sum.inl (b, p))).2.2 : sProp 𝕄))
      = bigSep Finset.univ fun b : Fin 4 => bigSep Finset.univ fun a : Fin 2 => bigSep Finset.univ fun h : Fin 16 => dutyTok ER (copyCell c a) b.val h
    from bigSep_congr fun b _ => bigSep_univ_prod _]
  rfl

/-- What a device needs of the tokens, as the launch gives it. -/
theorem toks_of : iprop(copyTok (F := F) c ∗ sentTok (F := F) c ∗ recvTok (F := F) (peer c) ∗ creditTok (F := F) (peer c) ∗ barTok (F := F) (peer c) ∗ writeToks (F := F) c)
    ⊢ Toks (F := F) c := by
  unfold Toks copyTok creditTok barTok sendAll sendToks
  iintro ⟨Hc, Hs, Hr, Hk, Hb, Hw⟩
  isplitl [Hc]; · iexact Hc
  isplitl [Hs Hr Hw]
  · iapply (Entails.of_eq (show (bigSep Finset.univ fun x : Fin 4 × Fin 4 => iprop(dutyTok ER (sentCell c (slot x.1) x.2) (rnd x.1).val 0
          ∗ dutyTok ER (recvCell (peer c) (slot x.1) x.2) (rnd x.1).val 0 ∗ Release.writeTok ES (peer c, slot x.1, x.2) ((rnd x.1).val + 1)) : sProp 𝕄)
        = bigSep Finset.univ fun b : Fin 4 => bigSep Finset.univ fun j : Fin 4 => iprop(dutyTok ER (sentCell c (slot b) j) (rnd b).val 0
          ∗ dutyTok ER (recvCell (peer c) (slot b) j) (rnd b).val 0 ∗ Release.writeTok ES (peer c, slot b, j) ((rnd b).val + 1))
      from bigSep_univ_prod _))
    iapply (Entails.of_eq (bigSep_sep' (M := 𝕄) (s := Finset.univ) (Φ := fun x : Fin 4 × Fin 4 => dutyTok ER (sentCell c (slot x.1) x.2) (rnd x.1).val 0)
      (Ψ := fun x : Fin 4 × Fin 4 => iprop(dutyTok ER (recvCell (peer c) (slot x.1) x.2) (rnd x.1).val 0
        ∗ Release.writeTok ES (peer c, slot x.1, x.2) ((rnd x.1).val + 1)))).symm)
    isplitl [Hs]; · unfold sentTok; iexact Hs
    iapply (Entails.of_eq (bigSep_sep' (M := 𝕄) (s := Finset.univ) (Φ := fun x : Fin 4 × Fin 4 => dutyTok ER (recvCell (peer c) (slot x.1) x.2) (rnd x.1).val 0)
      (Ψ := fun x : Fin 4 × Fin 4 => Release.writeTok ES (peer c, slot x.1, x.2) ((rnd x.1).val + 1))).symm)
    isplitl [Hr]; · unfold recvTok; iexact Hr
    unfold writeToks; iexact Hw
  isplitl [Hk]; · iexact Hk
  iexact Hb

theorem at_peer (Φ : Dev nD → sProp 𝕄) : bigSep Finset.univ Φ ⊢ bigSep Finset.univ fun c => Φ (peer c) :=
  Entails.of_eq (bigSep_univ_equiv peerEquiv Φ)

/-! ## The writers' tokens of the receive slots -/

/-- A device, a batch and a column block, as the slot the device writes and the round it writes it in. -/
def slotEquiv : Dev nD × Fin 4 × Fin 4 ≃ Key × Fin 2 where
  toFun x := ((peer x.1, slot x.2.1, x.2.2), rnd x.2.1)
  invFun y := (peer y.1.1, batch y.1.2.1 y.2.val, y.1.2.2)
  left_inv x := by
    obtain ⟨c, b, j⟩ := x
    show (peer (peer c), batch (slot b) (rnd b).val, j) = _
    rw [peer_peer, batch_slot]
  right_inv y := by
    obtain ⟨⟨c, s, j⟩, r⟩ := y
    show ((peer (peer c), slot (batch s r.val), j), rnd (batch s r.val)) = _
    rw [peer_peer, show slot (batch s r.val) = s from by revert s r; decide, show rnd (batch s r.val) = r from by revert s r; decide]

def roundEmb : Key × Fin 2 ↪ Key × ℕ := ⟨fun x => (x.1, x.2.val), fun _ _ h => Prod.ext (congrArg (fun t : Key × ℕ => t.1) h) (Fin.ext (congrArg (fun t : Key × ℕ => t.2) h))⟩
theorem round_pairs : (Finset.univ : Finset Key) ×ˢ Finset.range 2 = Finset.univ.map roundEmb := by
  ext ⟨k, r⟩
  rw [Finset.mem_product, Finset.mem_map]
  refine ⟨fun h => ⟨(k, ⟨r, Finset.mem_range.mp h.2⟩), Finset.mem_univ _, rfl⟩, ?_⟩
  rintro ⟨⟨k', r'⟩, -, h⟩
  rw [← show r'.val = r from congrArg (fun t : Key × ℕ => t.2) h]
  exact ⟨Finset.mem_univ _, Finset.mem_range.mpr r'.isLt⟩

theorem writes_eq : bigSep ((Finset.univ : Finset Key) ×ˢ Finset.range 2) (fun x => (Release.writeTok ES x.1 (x.2 + 1) : sProp 𝕄))
    = bigSep Finset.univ fun c : Dev nD => writeToks (F := F) c := by
  rw [round_pairs, bigSep_map, bigSep_univ_equiv slotEquiv, bigSep_univ_prod]
  rfl

theorem readers_eq : bigSep (Finset.univ : Finset Key) (fun k => (Release.readerAt ES k 0 : sProp 𝕄))
    = bigSep Finset.univ fun c : Dev nD => bigSep Finset.univ fun s : Fin 2 => readers (F := F) c s 0 := by
  rw [bigSep_univ_prod]
  refine bigSep_congr fun c _ => ?_
  rw [bigSep_univ_prod]
  rfl

/-! ## All of it -/

/-- What stays with a device. -/
def linear : sProp 𝕄 :=
  iprop(atPos ER (barCell c) 0 ∅ 0 ∗ openers (F := F) c ∗ Toks (F := F) c ∗ bigSep Finset.univ fun s : Fin 2 => readers (F := F) c s 0)

theorem openers_eq : bigSep ownCells (fun g => (openTok ER g : sProp 𝕄)) = bigSep Finset.univ fun c : Dev nD => openers (F := F) c := by
  unfold ownCells
  rw [bigSep_map, bigSep_univ_prod]
  rfl
theorem at_bar (Φ : GSem nD τ sig → sProp 𝕄) : bigSep barCells Φ = bigSep Finset.univ fun c : Dev nD => Φ (barCell c) := by
  unfold barCells
  rw [bigSep_map]
  rfl

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact (by decide : ∀ k : Own, ownSem k ≠ .reg bSem) ck.2 (congrArg Prod.snd h)

theorem pair_up (Φ Ψ : Dev nD → sProp 𝕄) : iprop(bigSep Finset.univ Φ ∗ bigSep Finset.univ Ψ) ⊢ bigSep Finset.univ fun c => iprop(Φ c ∗ Ψ c) :=
  Entails.of_eq (bigSep_sep' (M := 𝕄) (s := Finset.univ) (Φ := Φ) (Ψ := Ψ)).symm
theorem take_apart (Φ Ψ : Dev nD → sProp 𝕄) : (bigSep Finset.univ fun c => iprop(Φ c ∗ Ψ c)) ⊢ iprop(bigSep Finset.univ Φ ∗ bigSep Finset.univ Ψ) :=
  Entails.of_eq (bigSep_sep' (M := 𝕄) (s := Finset.univ) (Φ := Φ) (Ψ := Ψ))

theorem toks_all : iprop(bigSep duties (fun x => (dutyTok ER x.1 x.2.1 x.2.2 : sProp 𝕄))
      ∗ bigSep ((Finset.univ : Finset Key) ×ˢ Finset.range 2) (fun x => (Release.writeTok ES x.1 (x.2 + 1) : sProp 𝕄)))
    ⊢ bigSep Finset.univ fun c : Dev nD => Toks (F := F) c := by
  rw [duties_eq, writes_eq]
  iintro ⟨H, Hw⟩
  ihave H := (take_apart (F := F) _ _) $$ H
  icases H with ⟨Hc, H⟩
  ihave H := (take_apart (F := F) _ _) $$ H
  icases H with ⟨Hs, H⟩
  ihave H := (take_apart (F := F) _ _) $$ H
  icases H with ⟨Hr, H⟩
  ihave H := (take_apart (F := F) _ _) $$ H
  icases H with ⟨Hk, Hb⟩
  iapply (sep_mono_at (fun c _ => toks_of (F := F) c))
  iapply (pair_up (F := F)); isplitl [Hc]; · iexact Hc
  iapply (pair_up (F := F)); isplitl [Hs]; · iexact Hs
  iapply (pair_up (F := F)); isplitl [Hr]; · iapply (at_peer (F := F) (fun c => recvTok c)) $$ Hr
  iapply (pair_up (F := F)); isplitl [Hk]; · iapply (at_peer (F := F) (fun c => creditTok c)) $$ Hk
  iapply (pair_up (F := F)); isplitl [Hb]; · iapply (at_peer (F := F) (fun c => barTok c)) $$ Hb
  iexact Hw

end Cert.KernelIdeal.OProj

end
-- ==== Proof.Launch.lean ====
/- The run: from the launch, through the program's segments, to what the memory holds at the end. -/
module

public import proofs.«01_k».proof.Proof.Deal
public import Idealize.ShloMosaic.Lib.Pipeline.Kit

@[expose] public section

set_option maxRecDepth 16384

noncomputable section

namespace Cert.KernelIdeal.OProj

open Idealize Idealize.ShloMosaic Idealize.ShloMosaic.TcCoe Idealize.ShloMosaic.Rounds Idealize.ShloMosaic.ValueIdx
open Idealize.SL Idealize.SL.RA Idealize.SL.BI Idealize.SL.Sem Cert.KernelIdeal.Gen
open scoped Idealize.SL.BI
open Idealize.SL.BI.BIBase Idealize.SL.BI.Laws Idealize.SL.ProofMode

variable {F : FTy → Type} [FloatOps F]

local notation "𝕄" => MT nD τ sig (Fin 2) (Elt F) ℕ UU ℕ

variable (m : (ℓ : Loc nD τ sig) → Buf (Elt F) ℓ) (ρ : Dev nD → PrngReg)

/-! ## The launch -/

/-- The launch element: the staging cells', the kernel's cells and tokens, the receive slots. -/
def u₀ : UU :=
  (initOf (Pipeline.cells (Pipeline.pin (pcfgs (F := F)) adm) cellOf_inj) (Pipeline.launchToks (Pipeline.pin (pcfgs (F := F)) adm) cellOf_inj),
    (launchOf barCells ownCells duties, Release.initSlots Finset.univ 2))

/-- The kernel's part of it, kept with device 0 until all devices' are dealt. -/
def parked : sProp 𝕄 := iprop(BI.own (ER (launchOf barCells ownCells duties)) ∗ BI.own (ES (Release.initSlots (Finset.univ : Finset Key) 2)))

def G (c : Dev nD) : sProp 𝕄 := if c = 0 then parked (F := F) else iprop(emp)

theorem parked_eq : bigSep Finset.univ (G (F := F)) = parked := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-- A device's holdings at the launch and at the end. -/
abbrev T₀ (c : Dev nD) : sProp 𝕄 := iprop(StableHlo.held (c : Thread nD τ) bufs (val0 m c) ∗ riding m c)
abbrev Tₙ (c : Dev nD) : sProp 𝕄 := iprop(StableHlo.held (c : Thread nD τ) bufs (val3 m c) ∗ semVal (barCell c) 0)

/-- What every device may consult. -/
def records (κ : GSem nD τ sig → ℕ) (σ : Key → ℕ) : sProp 𝕄 :=
  iprop(Know (inX m) (inW m) κ σ ∗ bigSep barCells fun g => reached ER g 0)

instance records_persistent (κ : GSem nD τ sig → ℕ) (σ : Key → ℕ) : BI.Persistent (records m κ σ) := by unfold records; infer_instance

theorem reached_bar (c : Dev nD) : (bigSep barCells fun g => (reached ER g 0 : sProp 𝕄)) ⊢ reached ER (barCell c) 0 :=
  bigSep_elim (Finset.mem_map_of_mem barEmb (Finset.mem_univ c))

/-- What of a device's holdings is not dealt. -/
def bundle (c : Dev nD) : sProp 𝕄 :=
  iprop(StableHlo.held (c : Thread nD τ) bufs (val0 m c) ∗ Creds (F := F) c ∗ owes (c : Thread nD τ) (oweAll c) ∅ ∗ ∃ r, prngReg c r)

theorem T₀_of (κ : GSem nD τ sig → ℕ) (σ : Key → ℕ) (c : Dev nD) : iprop(records m κ σ ∗ (linear (F := F) c ∗ bundle m c)) ⊢ T₀ m c := by
  unfold records linear bundle T₀ riding start owing
  iintro ⟨⟨#HK, #Hr⟩, ⟨Hat, Ho, Ht, Hrd⟩, Hh, Hc, HO, Hp⟩
  isplitl [Hh]; · iexact Hh
  isplitl [Hat Ho Ht Hrd Hc]
  · isplitr [Hc]
    · iexists κ; iexists σ
      isplitr; · iexact HK
      isplitr; · iapply (reached_bar (F := F) (peer c)) $$ Hr
      isplitl [Hat]; · iexact Hat
      isplitl [Ho]; · iexact Ho
      isplitl [Ht]; · iexact Ht
      iexact Hrd
    iexact Hc
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg bSem} from by decide, BI.bigSep_singleton]

theorem core_of (c : Dev nD) : iprop(unscopedBufs c (fun b => m ((c : Thread nD τ).loc b)) ∗ unscopedSems0 c
      ∗ owes (c : Thread nD τ) (oweAll c) ∅ ∗ Pipeline.launchCred oweAll c ∗ prngReg c (ρ c) ∗ G (F := F) c)
    ⊢ (iprop(bundle m c ∗ (semVal (barCell c) 0 ∗ G c)) : sProp 𝕄) := by
  rw [show unscopedBufs c (fun b => m ((c : Thread nD τ).loc b)) = StableHlo.held (c : Thread nD τ) bufs (val0 m c) from unscoped_held c (val0 m c),
    unscopedSems0_eq]
  unfold bundle
  iintro ⟨Hh, Hus, HO, Hcr, Hp, HG⟩
  isplitl [Hh HO Hcr Hp]
  · isplitl [Hh]; · iexact Hh
    isplitl [Hcr]; · iapply (creds_of (F := F) c) $$ Hcr
    isplitl [HO]; · iexact HO
    iexists (ρ c); iexact Hp
  isplitl [Hus]; · iexact Hus
  iexact HG

/-- The launch: all cells and slots allocated, and everything dealt. -/
theorem init :
    iprop((bigSep Finset.univ fun c : Dev nD => iprop(unscopedBufs c (fun b => m ((c : Thread nD τ).loc b)) ∗ unscopedSems0 c
          ∗ owes (c : Thread nD τ) (oweAll c) ∅ ∗ Pipeline.launchCred oweAll c ∗ prngReg c (ρ c) ∗ G (F := F) c)) ∗ levAts L lv)
      ⊢ (|={Set.univ}=> bigSep Finset.univ (T₀ m) : sProp 𝕄) := by
  iintro ⟨H, #HL⟩
  ihave H := (sep_mono_at (fun c _ => core_of m ρ c)) $$ H
  ihave H := (take_apart (F := F) _ _) $$ H
  icases H with ⟨HB, H⟩
  ihave H := (take_apart (F := F) _ _) $$ H
  icases H with ⟨Hv, HG⟩
  ihave HG := (Entails.of_eq (parked_eq (F := F))) $$ HG
  unfold parked
  icases HG with ⟨Hu, Hs⟩
  imod (Rounds.fund_launch ER (sched (inX m) (inW m)) disjoint_cells (fun g _ h => h) duties) $$ [Hv Hu] with ⟨%κ, -, #Hinv, #Hr, Hat, Hopen, Htok⟩
  · isplitl [Hv]
    · iapply (Entails.of_eq (at_bar (F := F) (fun g => semVal g 0)).symm) $$ Hv
    iexact Hu
  imod (Release.slots_init ES (Finset.univ : Finset Key) 2 (slotRes (F := F))) $$ Hs with ⟨%σ, -, #Hsl, Hrd, Hwr⟩
  imodintro
  iapply (show iprop(records m κ σ ∗ bigSep Finset.univ fun c : Dev nD => iprop(linear (F := F) c ∗ bundle m c)) ⊢ bigSep Finset.univ (T₀ m) from
    bigSep_with_persistent fun c _ => T₀_of m κ σ c)
  isplitr
  · unfold records Know
    isplitr
    · isplitr; · iexact Hinv
      isplitr; · iexact Hsl
      iexact HL
    iexact Hr
  iapply (pair_up (F := F))
  isplitr [HB]
  · unfold linear
    iapply (pair_up (F := F)); isplitl [Hat]; · iapply (Entails.of_eq (at_bar (F := F) (fun g => atPos ER g 0 ∅ 0))) $$ Hat
    iapply (pair_up (F := F)); isplitl [Hopen]; · iapply (Entails.of_eq (openers_eq (F := F))) $$ Hopen
    iapply (pair_up (F := F)); isplitl [Htok Hwr]
    · iapply (toks_all (F := F))
      isplitl [Htok]; · iexact Htok
      iexact Hwr
    iapply (Entails.of_eq (readers_eq (F := F))) $$ Hrd
  iexact HB

/-! ## The end -/

theorem unscoped_bar : ∀ sm : SemLoc sig, sm.isScoped .tc = false → sm = .reg bSem := by decide

theorem val3_arg0 (c : Dev nD) : val3 m c (Proc.devRef .tc main_arg0) = m ((c : Thread nD τ).loc main_arg0) := by
  show StableHlo.after [_] (val2 m c) (Proc.devRef .tc main_arg0) = _
  rw [StableHlo.after_cons, StableHlo.after_nil, StableHlo.unary_result_ne _ _ _ _ _ _ (by decide)]
  exact val2_arg0 m c
theorem val1_arg1 (c : Dev nD) : val1 m c (Proc.devRef .tc main_arg1) = m ((c : Thread nD τ).loc main_arg1) := V_main_arg1 m c
theorem val3_arg1 (c : Dev nD) : val3 m c (Proc.devRef .tc main_arg1) = m ((c : Thread nD τ).loc main_arg1) := by
  show StableHlo.after [_] (val2 m c) (Proc.devRef .tc main_arg1) = _
  rw [StableHlo.after_cons, StableHlo.after_nil, StableHlo.unary_result_ne _ _ _ _ _ _ (by decide)]
  exact (val2_ne m c _ (StableHlo.devRef_ne_of_ne (by decide))).trans (val1_arg1 m c)
theorem val3_v3 (c : Dev nD) : val3 m c (Proc.devRef .tc main_v3)
    = extf (F := F) .f32 (outAll (inX m) (inW m) c) bitsLt_bf16_f32 := by
  show StableHlo.after [_] (val2 m c) (Proc.devRef .tc main_v3) = _
  rw [StableHlo.after_cons, StableHlo.after_nil, StableHlo.unary_result]
  show extf (F := F) .f32 (val2 m c (Proc.devRef .tc main_v2)) bitsLt_bf16_f32 = _
  rw [val2_v2]
theorem inW_eq (c : Dev nD) : inW m c = truncf (F := F) .bf16 (m ((c : Thread nD τ).loc main_arg1)) bitsLt_bf16_f32 := by
  show StableHlo.after [_] (val0 m c) (Proc.devRef .tc main_v1) = _
  rw [StableHlo.after_cons, StableHlo.after_nil, StableHlo.unary_result]
  rfl

set_option backward.isDefEq.respectTransparency.types false in
/-- Every run ends, with the arguments unchanged, the result the sum of the two devices' products, and every semaphore at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = extf (F := F) .f32 (outAll (inX m) (inW m) c) bitsLt_bf16_f32)
      ∧ r.2.sem = fun _ => 0) :=
  Pipeline.θ_run_regions_kit_sems (pcfgs (F := F)) adm (pdats m) 0 cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := oweAll) (hL := L_of_ne) (G := G) (u₀ := u₀)
    (hu₀ := by
      unfold u₀
      iintro Hu
      ihave H := (ownU_pair _ _) $$ Hu
      icases H with ⟨HP, HX⟩
      ihave HX := (own_pair_emb _ _ _) $$ HX
      imodintro
      isplitl [HP]; · iexact HP
      iapply (Entails.of_eq (parked_eq (F := F)).symm)
      unfold parked
      iexact HX)
    (T₀ := T₀ m) (Tₙ := Tₙ m)
    (hch := by
      refine ⟨fun c => .rfl, fun c => region_pre m c, fun c => region_post m c, fun c => ?_⟩
      show iprop(StableHlo.held (c : Thread nD τ) bufs (val3 m c) ∗ landed c)
        ⊢ iprop(Tₙ m c ∗ ∃ Wd, owes (c : Thread nD τ) (0 : CellTallies nD τ sig (Fin 2)) Wd)
      unfold landed owing
      iintro ⟨Hh, Hb0, HO⟩
      isplitr [HO]
      · isplitl [Hh]; · iexact Hh
        iexact Hb0
      iexact HO)
    (hinit := init m ρ)
    (QY := fun c s => (s.mem ((c : Thread nD τ).loc main_arg0) = val3 m c main_arg0 ∧ s.mem ((c : Thread nD τ).loc main_arg1) = val3 m c main_arg1
        ∧ s.mem ((c : Thread nD τ).loc main_v3) = val3 m c main_v3)
      ∧ s.sem (barCell c) = 0)
    (hfin := fun c s' => by
      dsimp only [Tₙ]; rw [bufs_eq]
      iintro ⟨⟨⟨H0, H1, -, -, H3⟩, Hb0⟩, HSI⟩
      icombine HSI H0 gives %h0
      icombine HSI H1 gives %h1
      icombine HSI H3 gives %h3
      icombine HSI Hb0 gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        exact ⟨h0.trans (val3_arg0 m c), h1.trans (val3_arg1 m c), h3.trans (val3_v3 m c)⟩,
      sem_eq_zero hs fun c sm hsm => by
        obtain rfl := unscoped_bar sm hsm
        exact (h c).2⟩)

end Cert.KernelIdeal.OProj

end
-- ==== Proof.Value.lean ====
/- The values over the extended reals: one chunk of the result is two sums of products. -/
module

public import proofs.«01_k».proof.Proof.Split
public import Idealize.ShloMosaic.Lib.Pointwise

@[expose] public section

set_option maxRecDepth 16384

noncomputable section

namespace Cert.KernelIdeal.OProj

open Idealize Idealize.ShloMosaic Cert.KernelIdeal.Gen
open scoped BigOperators

/-- A product of a half tile and a column block at an index. -/
theorem prod_apply (x : Vec Ideal S1x512x2048 .f32) (w : Vec Ideal S2048x1024 .bf16) (r : Fin 512) (q : Fin 1024) :
    prod (F := Ideal) x w (ix3 0 r q) = ∑ k : Fin 2048, x (ix3 0 r k) * w (ix2 k q) := by
  pointwise [prod, k0_pay2, k0_pay1]

/-- A sum of two chunks at an index. -/
theorem sum2_apply (a b : Vec Ideal S1x512x1024 .bf16) (r : Fin 512) (q : Fin 1024) :
    sum2 (F := Ideal) a b (ix3 0 r q) = a (ix3 0 r q) + b (ix3 0 r q) := by
  pointwise [sum2, k0_pay26]

variable (X : Dev nD → Vec Ideal S4x1024x16x128 .f32) (W : Dev nD → Vec Ideal S2048x4096 .bf16) (c : Dev nD)

/-- The element of the attention that position `k` of a row of a half reads. -/
def rowIdx (b : Fin 4) (a : Fin 2) (r : Fin 512) (k : Fin 2048) : S4x1024x16x128.Idx :=
  ix4 b ⟨row0 c a + r.val, by have := row0_le c a; omega⟩ ⟨k.val / 128, by omega⟩ ⟨k.val % 128, Nat.mod_lt _ (by decide)⟩

/-- The rows of a half tile at an index. -/
theorem rowsV_apply (b : Fin 4) (a : Fin 2) (r : Fin 512) (k : Fin 2048) :
    rowsV X c b a (ix3 0 r k) = X c (rowIdx c b a r k) := by
  show tileV X c b ((halfR a).emb (ix3 0 r k)) = _
  have e0 : (halfR a).emb (ix3 0 r k) 0 = a := Fin.ext (by show a.val + 1 * 0 = a.val; omega)
  have e1 : ((halfR a).emb (ix3 0 r k) 1).val = r.val := by show 0 + 1 * r.val = r.val; omega
  have e2 : ((halfR a).emb (ix3 0 r k) 2).val = k.val := by show 0 + 1 * k.val = k.val; omega
  refine congrArg (X c) (funext fun d => Fin.ext ?_)
  match d with
  | 0 => rfl
  | 1 => show row0 c ((halfR a).emb (ix3 0 r k) 0) + ((halfR a).emb (ix3 0 r k) 1).val = row0 c a + r.val; rw [e0, e1]
  | 2 => show ((halfR a).emb (ix3 0 r k) 2).val / 128 = k.val / 128; rw [e2]
  | 3 => show ((halfR a).emb (ix3 0 r k) 2).val % 128 = k.val % 128; rw [e2]

/-- A column block of the weights at an index. -/
theorem colsV_apply (j : Fin 4) (k : Fin 2048) (q : Fin 1024) :
    colsV W c j (ix2 k q) = W c (ix2 k ⟨1024 * j.val + q.val, by omega⟩) := by
  show W c ((colR j).emb (ix2 k q)) = _
  refine congrArg (W c) (funext fun d => Fin.ext ?_)
  match d with
  | 0 => show 0 + 1 * k.val = k.val; omega
  | 1 => show 1024 * j.val + 1 * q.val = 1024 * j.val + q.val; omega

/-- What a device's half contributes to an element of the result. -/
def part (b : Fin 4) (a : Fin 2) (r : Fin 512) (q : Fin 4096) : EReal :=
  ∑ k : Fin 2048, (X c (rowIdx c b a r k) : EReal) * W c (ix2 k q)

theorem chunkV_apply (b : Fin 4) (a : Fin 2) (j : Fin 4) (r : Fin 512) (q : Fin 1024) :
    chunkV X W c b a j (ix3 0 r q) = part X W c b a r ⟨1024 * j.val + q.val, by omega⟩ := by
  unfold chunkV part
  refine (prod_apply _ _ r q).trans (Finset.sum_congr rfl fun k _ => ?_)
  rw [rowsV_apply, colsV_apply]

/-- An element of the result: what the device's own second half and its peer's first half contribute. -/
theorem outAll_apply (b : Fin 4) (r : Fin 512) (q : Fin 4096) :
    outAll X W c (ix3 b r q) = part X W c b 1 r q + part X W (peer c) b 0 r q := by
  have hq : (⟨1024 * (q.val / 1024) + q.val % 1024, by omega⟩ : Fin 4096) = q := Fin.ext (Nat.div_add_mod q.val 1024)
  have h : outAll X W c (ix3 b r q)
      = outV X W c b ⟨q.val / 1024, by omega⟩ (ix3 0 r ⟨q.val % 1024, Nat.mod_lt _ (by decide)⟩) := by
    unfold outAll
    refine congrArg (outV X W c b ⟨q.val / 1024, by omega⟩) (funext fun d => ?_)
    match d with
    | 0 => rfl
    | 1 => rfl
    | 2 => rfl
  rw [h]
  unfold outV
  rw [sum2_apply, chunkV_apply, chunkV_apply]
  exact congrArg₂ (fun s t => part X W c b 1 r s + part X W (peer c) b 0 r t) hq hq

end Cert.KernelIdeal.OProj

end
-- ==== Proof.Compare.lean ====
/- The two programs' results over the extended reals: a device's rows of the reference's product. -/
module

public import proofs.«01_k».proof.Proof.Launch
public import proofs.«01_k».proof.Proof.Value
public import proofs.«01_k».proof.Proof.Gen.ReferenceIdeal.Run
public import Idealize.ShloMosaic.Lib.Layout

@[expose] public section

set_option maxRecDepth 16384

noncomputable section

namespace Cert.KernelIdeal.OProj

open Idealize Idealize.ShloMosaic Cert.KernelIdeal.Gen
open scoped BigOperators

/-- The whole attention. -/
abbrev Att := FVec Ideal Cert.ReferenceIdeal.S4x1024x32x128 .f32
/-- The whole weights. -/
abbrev Wts := FVec Ideal Cert.ReferenceIdeal.S4096x4096 .f32

variable (O : Att) (V : Wts) (c : Dev nD)

/-- The reference's result. -/
def refAll : FVec Ideal Cert.ReferenceIdeal.S4x1024x4096 .f32 :=
  Host.dotGeneral (F := Ideal) (φ₁ := .f32) (φ₂ := .f32)
    Cert.ReferenceIdeal.dot_S4x1024x4096_S4096x4096_S4x1024x4096_2_0_01_1_n_n none
    (shapeCast _ O Cert.ReferenceIdeal.Facts₀.shapeCasts_S4x1024x32x128_S4x1024x4096) V

/-- One product of the reference's sums. -/
def term (b : Fin 4) (s : Fin 1024) (q : Fin 4096) (k : Fin 4096) : EReal :=
  (O (ix4 b s ⟨k.val / 128, by omega⟩ ⟨k.val % 128, Nat.mod_lt _ (by decide)⟩) : EReal) * V (ix2 k q)

theorem refAll_apply (b : Fin 4) (s : Fin 1024) (q : Fin 4096) :
    refAll O V (ix3 b s q) = ∑ k : Fin 4096, term O V b s q k := by
  pointwise [refAll, term]

/-- The products over one half of the heads. -/
def half (b : Fin 4) (s : Fin 1024) (q : Fin 4096) (x : ℕ) (hx : x < 2) : EReal :=
  ∑ k : Fin 2048, term O V b s q ⟨2048 * x + k.val, by omega⟩

/-- The reference's sum is one half of the heads and the other. -/
theorem refAll_halves (b : Fin 4) (s : Fin 1024) (q : Fin 4096) :
    refAll O V (ix3 b s q) = half O V b s q 0 (by decide) + half O V b s q 1 (by decide) := by
  rw [refAll_apply]
  refine (Fin.sum_univ_add (a := 2048) (b := 2048) (fun k => term O V b s q k)).trans ?_
  unfold half
  refine congrArg₂ (· + ·) (Finset.sum_congr rfl fun k _ => congrArg (term O V b s q) (Fin.ext ?_))
    (Finset.sum_congr rfl fun k _ => congrArg (term O V b s q) (Fin.ext ?_))
  · show k.val = 2048 * 0 + k.val; omega
  · show 2048 + k.val = 2048 * 1 + k.val; omega

/-! ## A device's blocks -/

/-- The attention's cuts: the heads along the first mesh axis. -/
abbrev attAt (c : Dev nD) := Layout.meshBlock [2, 2, 4] ![[], [], [0], []] c
/-- The weights' cuts: the rows along the first mesh axis. -/
abbrev wtsAt (c : Dev nD) := Layout.meshBlock [2, 2, 4] ![[0], []] c
/-- The result's cuts: the positions along the first mesh axis. -/
abbrev outAt (c : Dev nD) := Layout.meshBlock [2, 2, 4] ![[], [0], []] c

theorem attAt_val : ∀ c : Dev nD, (attAt c 0).val = 0 ∧ (attAt c 1).val = 0 ∧ (attAt c 2).val = c.val / 8 ∧ (attAt c 3).val = 0 := by decide
theorem wtsAt_val : ∀ c : Dev nD, (wtsAt c 0).val = c.val / 8 ∧ (wtsAt c 1).val = 0 := by decide
theorem outAt_val : ∀ c : Dev nD, (outAt c 0).val = 0 ∧ (outAt c 1).val = c.val / 8 ∧ (outAt c 2).val = 0 := by decide

theorem side_lt (c : Dev nD) : c.val / 8 < 2 := by have h : c.val < 16 := c.isLt; omega

/-- A device's block of the attention. -/
abbrev attOf : Vec Ideal S4x1024x16x128 .f32 := Layout.blockN ⟨4, ![4, 1024, 16, 128]⟩ ⟨4, ![4, 1024, 32, 128]⟩ (attAt c) O
/-- A device's block of the weights. -/
abbrev wtsOf : FVec Ideal S2048x4096 .f32 := Layout.blockN ⟨2, ![2048, 4096]⟩ ⟨2, ![4096, 4096]⟩ (wtsAt c) V
/-- A device's block of the result. -/
abbrev outOf (R : FVec Ideal Cert.ReferenceIdeal.S4x1024x4096 .f32) : FVec Ideal S4x512x4096 .f32 :=
  Layout.blockN ⟨3, ![4, 512, 4096]⟩ ⟨3, ![4, 1024, 4096]⟩ (outAt c) R

theorem attOf_apply (b : Fin 4) (s : Fin 1024) (h : Fin 16) (d : Fin 128) :
    attOf O c (ix4 b s h d) = O (ix4 b s ⟨16 * (c.val / 8) + h.val, by have := side_lt c; omega⟩ d) := by
  obtain ⟨h0, h1, h2, h3⟩ := attAt_val c
  refine congrArg O (funext fun a => Fin.ext ?_)
  match a with
  | 0 => show (attAt c 0).val * 4 + b.val = b.val; omega
  | 1 => show (attAt c 1).val * 1024 + s.val = s.val; omega
  | 2 => show (attAt c 2).val * 16 + h.val = 16 * (c.val / 8) + h.val; omega
  | 3 => show (attAt c 3).val * 128 + d.val = d.val; omega

theorem wtsOf_apply (k : Fin 2048) (q : Fin 4096) :
    wtsOf V c (ix2 k q) = V (ix2 ⟨2048 * (c.val / 8) + k.val, by have := side_lt c; omega⟩ q) := by
  obtain ⟨h0, h1⟩ := wtsAt_val c
  refine congrArg V (funext fun a => Fin.ext ?_)
  match a with
  | 0 => show (wtsAt c 0).val * 2048 + k.val = 2048 * (c.val / 8) + k.val; omega
  | 1 => show (wtsAt c 1).val * 4096 + q.val = q.val; omega

theorem outOf_apply (R : FVec Ideal Cert.ReferenceIdeal.S4x1024x4096 .f32) (b : Fin 4) (r : Fin 512) (q : Fin 4096) :
    outOf c R (ix3 b r q) = R (ix3 b ⟨512 * (c.val / 8) + r.val, by have := side_lt c; omega⟩ q) := by
  obtain ⟨h0, h1, h2⟩ := outAt_val c
  refine congrArg R (funext fun a => Fin.ext ?_)
  match a with
  | 0 => show (outAt c 0).val * 4 + b.val = b.val; omega
  | 1 => show (outAt c 1).val * 512 + r.val = 512 * (c.val / 8) + r.val; omega
  | 2 => show (outAt c 2).val * 4096 + q.val = q.val; omega

/-! ## The two results -/

variable (X : Dev nD → Vec Ideal S4x1024x16x128 .f32) (W : Dev nD → Vec Ideal S2048x4096 .bf16)

/-- What a device's half contributes is the reference's sum over the device's heads. -/
theorem part_eq (hX : X c = attOf O c) (hW : W c = wtsOf V c) (b : Fin 4) (a : Fin 2) (r : Fin 512) (q : Fin 4096)
    (s : Fin 1024) (hs : s.val = row0 c a + r.val) : part X W c b a r q = half O V b s q (c.val / 8) (side_lt c) := by
  unfold part half term
  refine Finset.sum_congr rfl fun k _ => ?_
  have hs' : (⟨row0 c a + r.val, by have := row0_le c a; omega⟩ : Fin 1024) = s := Fin.ext hs.symm
  rw [hX, hW, wtsOf_apply]
  unfold rowIdx
  rw [attOf_apply, hs']
  have hk : k.val < 2048 := k.isLt
  have hd : (⟨16 * (c.val / 8) + k.val / 128, by have := side_lt c; omega⟩ : Fin 32)
      = ⟨(2048 * (c.val / 8) + k.val) / 128, by have := side_lt c; omega⟩ := Fin.ext (by show _ = _; simp only; omega)
  have hm : (⟨k.val % 128, Nat.mod_lt _ (by decide)⟩ : Fin 128)
      = ⟨(2048 * (c.val / 8) + k.val) % 128, Nat.mod_lt _ (by decide)⟩ := Fin.ext (by show _ = _; simp only; omega)
  exact congrArg₂ (fun h d => (O (ix4 b s h d) : EReal) * V (ix2 ⟨2048 * (c.val / 8) + k.val, by have := side_lt c; omega⟩ q)) hd hm

theorem own_row : ∀ c : Dev nD, row0 c 1 = 512 * (c.val / 8) ∧ row0 (peer c) 0 = 512 * (c.val / 8)
    ∧ ((c.val / 8 = 0 ∧ (peer c).val / 8 = 1) ∨ (c.val / 8 = 1 ∧ (peer c).val / 8 = 0)) := by decide

theorem half_congr (b : Fin 4) (s : Fin 1024) (q : Fin 4096) {x y : ℕ} (h : x = y) (hx : x < 2) (hy : y < 2) :
    half O V b s q x hx = half O V b s q y hy := by subst h; rfl

/-- A device's result is its block of the reference's. -/
theorem outAll_eq (hX : ∀ c, X c = attOf O c) (hW : ∀ c, W c = wtsOf V c) :
    (outAll X W c : S4x512x4096.Idx → EReal) = outOf c (refAll O V) := by
  funext i
  obtain ⟨b, r, q, rfl⟩ : ∃ (b : Fin 4) (r : Fin 512) (q : Fin 4096), i = ix3 b r q :=
    ⟨i 0, i 1, i 2, funext fun a => by match a with | 0 => rfl | 1 => rfl | 2 => rfl⟩
  obtain ⟨h1, h0, hs⟩ := own_row c
  have hlt := side_lt c
  rw [outOf_apply, refAll_halves]
  refine (outAll_apply X W c b r q).trans ?_
  rw [part_eq O V c X W (hX c) (hW c) b 1 r q ⟨512 * (c.val / 8) + r.val, by omega⟩ (by show 512 * (c.val / 8) + r.val = _; rw [h1]),
    part_eq O V (peer c) X W (hX _) (hW _) b 0 r q ⟨512 * (c.val / 8) + r.val, by omega⟩ (by show 512 * (c.val / 8) + r.val = _; rw [h0])]
  rcases hs with ⟨e, e'⟩ | ⟨e, e'⟩
  · exact congrArg₂ (· + ·) (half_congr O V b _ q e _ _) (half_congr O V b _ q e' _ _)
  · exact (congrArg₂ (· + ·) (half_congr O V b _ q e _ (by decide)) (half_congr O V b _ q e' _ (by decide))).trans (add_comm _ _)

end Cert.KernelIdeal.OProj

end
-- ==== Proof.Claims.lean ====
/- The claims, each from a run: three programs that end at rest, and one function. -/
module

public import proofs.«01_k».proof.Defs
public import proofs.«01_k».proof.Proof.Compare
public import proofs.«01_k».proof.Proof.Gen.Kernel

@[expose] public section

set_option maxRecDepth 16384

noncomputable section

namespace Cert.KernelIdeal.OProj

open Idealize Idealize.ShloMosaic Idealize.SL.Sem

/-- The frame over any float values. -/
theorem frame_any {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run_main m g)

set_option smartUnfolding false in
/-- The kernel's text is the ideal program's, so its frame is this one at the machine's floats. -/
theorem frame_kernel : Cert.quiescent_Kernel := fun m g _ => frame_any (F := Bits) m g

theorem frame_ideal : Cert.quiescent_KernelIdeal := fun m g _ => frame_any (F := Ideal) m g

theorem frame_reference : Cert.quiescent_ReferenceIdeal := fun m g _ =>
  (θ_run Cert.ReferenceIdeal.defs _ _).mono (fun _ h => ⟨fun c => ⟨(h c).2.1, (h c).2.2⟩, sem_eq_zero_of_no_sems rfl _⟩)
    (Cert.ReferenceIdeal.Value.run (F := Ideal) m g)

theorem algebraic : Cert.algebraic_KernelIdeal_ReferenceIdeal := fun m g m' g' _ hin => by
  refine ⟨refAll (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).2.2.trans ?_, (h.1 c).1, (h.1 c).2.1⟩)
      (run_main (F := Ideal) m g)
    exact outAll_eq _ _ c (inX m) (inW m) (fun c => (hin c).1) (fun c => (inW_eq m c).trans (hin c).2)
  · exact (θ_run Cert.ReferenceIdeal.defs _ _).mono (fun _ h => h 0) (Cert.ReferenceIdeal.Value.run (F := Ideal) m' g')

end Cert.KernelIdeal.OProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.OProj.frame_kernel, Cert.KernelIdeal.OProj.frame_ideal, Cert.KernelIdeal.OProj.frame_reference, trivial,
  Cert.KernelIdeal.OProj.algebraic⟩

end Cert.Proof

end
